-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S8192x512 : Shape := ⟨2, ![8192, 512]⟩
abbrev S15 : Shape := ⟨1, ![15]⟩
abbrev S_ : Shape := ⟨0, ![]⟩
abbrev S1 : Shape := ⟨1, ![1]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S8192x512, .f32⟩
  | .local _ .vmem, ⟨0, _⟩ => ⟨S512x512, .f32⟩
  | .local _ .vmem, ⟨1, _⟩ => ⟨S8192x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v15 : BitVec 32 := Scalar.muli v2 c512_i32
  let v16 : Index := Scalar.indexCast v15
  let c0_11 : Index := 0#32
  ![v16.toNat, 0]
def k0_off2 (d0 : Dev nD) (c0_i32_12 : BitVec 32) (c0_i32_27 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v18 : BitVec 32 := Scalar.subi v2 c0_i32_12
  let c16_i32_13 : BitVec 32 := 16#32
  let v19 : BitVec 32 := Scalar.addi v18 c16_i32_13
  let c16_i32_14 : BitVec 32 := 16#32
  let v20 : BitVec 32 := Scalar.remsi v19 c16_i32_14
  let c512_i32_26 : BitVec 32 := 512#32
  let v32 : BitVec 32 := Scalar.muli v20 c512_i32_26
  let v33 : BitVec 32 := Scalar.addi v32 c0_i32_27
  let c0_i32_430 : BitVec 32 := 0#32
  ![v33.toNat, 0]
def k0_off2_at (r : Fin 15) : BitVec 32 × BitVec 32 :=
  if r.val < 7 then
    if r.val < 3 then
      if r.val < 1 then
        (0#32, 0#32)
      else
        if r.val < 2 then
          (0#32, 256#32)
        else
          (1#32, 0#32)
    else
      if r.val < 5 then
        if r.val < 4 then
          (1#32, 256#32)
        else
          (2#32, 0#32)
      else
        if r.val < 6 then
          (2#32, 256#32)
        else
          (3#32, 0#32)
  else
    if r.val < 11 then
      if r.val < 9 then
        if r.val < 8 then
          (3#32, 256#32)
        else
          (4#32, 0#32)
      else
        if r.val < 10 then
          (4#32, 256#32)
        else
          (5#32, 0#32)
    else
      if r.val < 13 then
        if r.val < 12 then
          (5#32, 256#32)
        else
          (6#32, 0#32)
      else
        if r.val < 14 then
          (6#32, 256#32)
        else
          (7#32, 0#32)
def k0_dev3 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_428 : BitVec 32 := 1#32
  let v438 : BitVec 32 := Scalar.muli v7 c1_i32_428
  let v439 : BitVec 32 := Scalar.addi c0_i32_429 v438
  v439.toNat
def k0_off3 (d0 : Dev nD) (c0_i32_19 : BitVec 32) (c256_i32_34 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v25 : BitVec 32 := Scalar.addi v2 c0_i32_19
  let c16_i32_20 : BitVec 32 := 16#32
  let v26 : BitVec 32 := Scalar.remsi v25 c16_i32_20
  let c512_i32_33 : BitVec 32 := 512#32
  let v40 : BitVec 32 := Scalar.muli v26 c512_i32_33
  let v41 : BitVec 32 := Scalar.addi v40 c256_i32_34
  let c0_i32_436 : BitVec 32 := 0#32
  ![v41.toNat, 0]
def k0_off3_at (r : Fin 15) : BitVec 32 × BitVec 32 :=
  if r.val < 7 then
    if r.val < 3 then
      if r.val < 1 then
        (0#32, 256#32)
      else
        if r.val < 2 then
          (0#32, 0#32)
        else
          (1#32, 256#32)
    else
      if r.val < 5 then
        if r.val < 4 then
          (1#32, 0#32)
        else
          (2#32, 256#32)
      else
        if r.val < 6 then
          (2#32, 0#32)
        else
          (3#32, 256#32)
  else
    if r.val < 11 then
      if r.val < 9 then
        if r.val < 8 then
          (3#32, 0#32)
        else
          (4#32, 256#32)
      else
        if r.val < 10 then
          (4#32, 0#32)
        else
          (5#32, 256#32)
    else
      if r.val < 13 then
        if r.val < 12 then
          (5#32, 0#32)
        else
          (6#32, 256#32)
      else
        if r.val < 14 then
          (6#32, 0#32)
        else
          (7#32, 256#32)
def k0_dev4 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_434 : BitVec 32 := 1#32
  let v446 : BitVec 32 := Scalar.muli v5 c1_i32_434
  let v447 : BitVec 32 := Scalar.addi c0_i32_435 v446
  v447.toNat
def k0_dev5 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_440 : BitVec 32 := 1#32
  let v454 : BitVec 32 := Scalar.muli v7 c1_i32_440
  let v455 : BitVec 32 := Scalar.addi c0_i32_441 v454
  v455.toNat
def k0_dev6 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_446 : BitVec 32 := 1#32
  let v462 : BitVec 32 := Scalar.muli v5 c1_i32_446
  let v463 : BitVec 32 := Scalar.addi c0_i32_447 v462
  v463.toNat
def k0_off4 (d0 : Dev nD) (c0_i32_15 : BitVec 32) (c0_i32_31 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : BitVec 32 := Scalar.subi v2 c0_i32_15
  let c1_i32_16 : BitVec 32 := 1#32
  let v22 : BitVec 32 := Scalar.subi v21 c1_i32_16
  let c16_i32_17 : BitVec 32 := 16#32
  let v23 : BitVec 32 := Scalar.addi v22 c16_i32_17
  let c16_i32_18 : BitVec 32 := 16#32
  let v24 : BitVec 32 := Scalar.remsi v23 c16_i32_18
  let c512_i32_30 : BitVec 32 := 512#32
  let v36 : BitVec 32 := Scalar.muli v24 c512_i32_30
  let v37 : BitVec 32 := Scalar.addi v36 c0_i32_31
  let c0_i32_454 : BitVec 32 := 0#32
  ![v37.toNat, 0]
def k0_off4_at (r : Fin 15) : BitVec 32 × BitVec 32 :=
  if r.val < 7 then
    if r.val < 3 then
      if r.val < 1 then
        (0#32, 0#32)
      else
        if r.val < 2 then
          (0#32, 256#32)
        else
          (1#32, 0#32)
    else
      if r.val < 5 then
        if r.val < 4 then
          (1#32, 256#32)
        else
          (2#32, 0#32)
      else
        if r.val < 6 then
          (2#32, 256#32)
        else
          (3#32, 0#32)
  else
    if r.val < 11 then
      if r.val < 9 then
        if r.val < 8 then
          (3#32, 256#32)
        else
          (4#32, 0#32)
      else
        if r.val < 10 then
          (4#32, 256#32)
        else
          (5#32, 0#32)
    else
      if r.val < 13 then
        if r.val < 12 then
          (5#32, 256#32)
        else
          (6#32, 0#32)
      else
        if r.val < 14 then
          (6#32, 256#32)
        else
          (7#32, 0#32)
def k0_off5 (d0 : Dev nD) (c0_i32_21 : BitVec 32) (c256_i32_38 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v27 : BitVec 32 := Scalar.addi v2 c0_i32_21
  let c1_i32_22 : BitVec 32 := 1#32
  let v28 : BitVec 32 := Scalar.addi v27 c1_i32_22
  let c16_i32_23 : BitVec 32 := 16#32
  let v29 : BitVec 32 := Scalar.remsi v28 c16_i32_23
  let c512_i32_37 : BitVec 32 := 512#32
  let v44 : BitVec 32 := Scalar.muli v29 c512_i32_37
  let v45 : BitVec 32 := Scalar.addi v44 c256_i32_38
  let c0_i32_460 : BitVec 32 := 0#32
  ![v45.toNat, 0]
def k0_off5_at (r : Fin 15) : BitVec 32 × BitVec 32 :=
  if r.val < 7 then
    if r.val < 3 then
      if r.val < 1 then
        (0#32, 256#32)
      else
        if r.val < 2 then
          (0#32, 0#32)
        else
          (1#32, 256#32)
    else
      if r.val < 5 then
        if r.val < 4 then
          (1#32, 0#32)
        else
          (2#32, 256#32)
      else
        if r.val < 6 then
          (2#32, 0#32)
        else
          (3#32, 256#32)
  else
    if r.val < 11 then
      if r.val < 9 then
        if r.val < 8 then
          (3#32, 0#32)
        else
          (4#32, 256#32)
      else
        if r.val < 10 then
          (4#32, 0#32)
        else
          (5#32, 256#32)
    else
      if r.val < 13 then
        if r.val < 12 then
          (5#32, 0#32)
        else
          (6#32, 256#32)
      else
        if r.val < 14 then
          (6#32, 0#32)
        else
          (7#32, 256#32)
def k0_dev7 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_464 : BitVec 32 := 1#32
  let v482 : BitVec 32 := Scalar.muli v7 c1_i32_464
  let v483 : BitVec 32 := Scalar.addi c0_i32_465 v482
  v483.toNat
def k0_dev8 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_470 : BitVec 32 := 1#32
  let v490 : BitVec 32 := Scalar.muli v5 c1_i32_470
  let v491 : BitVec 32 := Scalar.addi c0_i32_471 v490
  v491.toNat
def k0_dev9 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_488 : BitVec 32 := 1#32
  let v510 : BitVec 32 := Scalar.muli v7 c1_i32_488
  let v511 : BitVec 32 := Scalar.addi c0_i32_489 v510
  v511.toNat
def k0_dev10 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_494 : BitVec 32 := 1#32
  let v518 : BitVec 32 := Scalar.muli v5 c1_i32_494
  let v519 : BitVec 32 := Scalar.addi c0_i32_495 v518
  v519.toNat
def k0_dev11 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_512 : BitVec 32 := 1#32
  let v538 : BitVec 32 := Scalar.muli v7 c1_i32_512
  let v539 : BitVec 32 := Scalar.addi c0_i32_513 v538
  v539.toNat
def k0_dev12 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_518 : BitVec 32 := 1#32
  let v546 : BitVec 32 := Scalar.muli v5 c1_i32_518
  let v547 : BitVec 32 := Scalar.addi c0_i32_519 v546
  v547.toNat
def k0_dev13 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_536 : BitVec 32 := 1#32
  let v566 : BitVec 32 := Scalar.muli v7 c1_i32_536
  let v567 : BitVec 32 := Scalar.addi c0_i32_537 v566
  v567.toNat
def k0_dev14 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_542 : BitVec 32 := 1#32
  let v574 : BitVec 32 := Scalar.muli v5 c1_i32_542
  let v575 : BitVec 32 := Scalar.addi c0_i32_543 v574
  v575.toNat
def k0_dev15 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_560 : BitVec 32 := 1#32
  let v594 : BitVec 32 := Scalar.muli v7 c1_i32_560
  let v595 : BitVec 32 := Scalar.addi c0_i32_561 v594
  v595.toNat
def k0_dev16 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_566 : BitVec 32 := 1#32
  let v602 : BitVec 32 := Scalar.muli v5 c1_i32_566
  let v603 : BitVec 32 := Scalar.addi c0_i32_567 v602
  v603.toNat
def k0_dev17 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_584 : BitVec 32 := 1#32
  let v622 : BitVec 32 := Scalar.muli v7 c1_i32_584
  let v623 : BitVec 32 := Scalar.addi c0_i32_585 v622
  v623.toNat
def k0_dev18 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_590 : BitVec 32 := 1#32
  let v630 : BitVec 32 := Scalar.muli v5 c1_i32_590
  let v631 : BitVec 32 := Scalar.addi c0_i32_591 v630
  v631.toNat
def k0_dev19 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_607 : BitVec 32 := 1#32
  let v650 : BitVec 32 := Scalar.muli v7 c1_i32_607
  let v651 : BitVec 32 := Scalar.addi c0_i32_608 v650
  v651.toNat
def k0_dev20 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_613 : BitVec 32 := 1#32
  let v658 : BitVec 32 := Scalar.muli v5 c1_i32_613
  let v659 : BitVec 32 := Scalar.addi c0_i32_614 v658
  v659.toNat
def k0_dev21 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_630 : BitVec 32 := 1#32
  let v678 : BitVec 32 := Scalar.muli v7 c1_i32_630
  let v679 : BitVec 32 := Scalar.addi c0_i32_631 v678
  v679.toNat
def k0_dev22 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_636 : BitVec 32 := 1#32
  let v686 : BitVec 32 := Scalar.muli v5 c1_i32_636
  let v687 : BitVec 32 := Scalar.addi c0_i32_637 v686
  v687.toNat
def k0_dev23 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_653 : BitVec 32 := 1#32
  let v706 : BitVec 32 := Scalar.muli v7 c1_i32_653
  let v707 : BitVec 32 := Scalar.addi c0_i32_654 v706
  v707.toNat
def k0_dev24 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_659 : BitVec 32 := 1#32
  let v714 : BitVec 32 := Scalar.muli v5 c1_i32_659
  let v715 : BitVec 32 := Scalar.addi c0_i32_660 v714
  v715.toNat
def k0_dev25 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_676 : BitVec 32 := 1#32
  let v734 : BitVec 32 := Scalar.muli v7 c1_i32_676
  let v735 : BitVec 32 := Scalar.addi c0_i32_677 v734
  v735.toNat
def k0_dev26 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_682 : BitVec 32 := 1#32
  let v742 : BitVec 32 := Scalar.muli v5 c1_i32_682
  let v743 : BitVec 32 := Scalar.addi c0_i32_683 v742
  v743.toNat
def k0_dev27 (d0 : Dev nD) : Nat :=
  let c0_i32_700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_699 : BitVec 32 := 1#32
  let v762 : BitVec 32 := Scalar.muli v7 c1_i32_699
  let v763 : BitVec 32 := Scalar.addi c0_i32_700 v762
  v763.toNat
def k0_dev28 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_705 : BitVec 32 := 1#32
  let v770 : BitVec 32 := Scalar.muli v5 c1_i32_705
  let v771 : BitVec 32 := Scalar.addi c0_i32_706 v770
  v771.toNat
def k0_dev29 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_722 : BitVec 32 := 1#32
  let v790 : BitVec 32 := Scalar.muli v7 c1_i32_722
  let v791 : BitVec 32 := Scalar.addi c0_i32_723 v790
  v791.toNat
def k0_dev30 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_728 : BitVec 32 := 1#32
  let v798 : BitVec 32 := Scalar.muli v5 c1_i32_728
  let v799 : BitVec 32 := Scalar.addi c0_i32_729 v798
  v799.toNat
def k0_dev31 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_745 : BitVec 32 := 1#32
  let v818 : BitVec 32 := Scalar.muli v7 c1_i32_745
  let v819 : BitVec 32 := Scalar.addi c0_i32_746 v818
  v819.toNat
def k0_dev32 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_751 : BitVec 32 := 1#32
  let v826 : BitVec 32 := Scalar.muli v5 c1_i32_751
  let v827 : BitVec 32 := Scalar.addi c0_i32_752 v826
  v827.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
  The kernel's body written out as loops: what the generated text of the body says in ninety operations, one after the
  other, is here a barrier, the copy of the device's own block, and three loops over the fifteen messages of each
  direction. `body_eq` says that the generated body is this program.

  Directions are booleans throughout: `true` is a message to the right neighbour, `false` one to the left.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL.Sem

variable {F : FTy → Type} [FloatOps F]

/-! ## Buffers and semaphores -/

/-- The block of `x` the device holds, in its staging buffer. -/
abbrev xM : Memref sig .tc .vmem S512x512 .f32 := Memref.whole cc0_stg0_0
/-- The gathered array, in its staging buffer. -/
abbrev oM : Memref sig .tc .vmem S8192x512 .f32 := Memref.whole cc0_stg1_0

/-- The barrier semaphore. -/
abbrev barS : Sem sig := (SemArray.scalar (sig.barrier 0 rfl) : Sems sig S_).sem

set_option backward.proofsInPublic true in
/-- The semaphore on which message `k` of direction `b` reports that its source has been read. -/
def sendQ (b : Bool) (k : Fin 15) : DmaSem sig :=
  ⟨(if b then 2 else 32) + k.val, by have := k.isLt; show _ < 62; split <;> omega⟩
set_option backward.proofsInPublic true in
/-- The semaphore on which message `k` of direction `b` reports that it has landed. -/
def recvQ (b : Bool) (k : Fin 15) : DmaSem sig :=
  ⟨(if b then 17 else 47) + k.val, by have := k.isLt; show _ < 62; split <;> omega⟩

/-- Half a block of the gathered array, from its first row's offset. -/
abbrev half (off : Fin 2 → Nat) (h : ∀ a, off a + S256x512.size a ≤ S8192x512.size a) : Memref sig .tc .vmem S256x512 .f32 :=
  oM.slice (Rect.unit (s := S8192x512) off S256x512.size h) (fun _ => rfl)

/-! ## What a message carries, and to whom -/

/-- The neighbour a message of direction `b` goes to, as the kernel computes it. -/
def toDev (b : Bool) (c : Dev nD) : Dev nD := match b with
  | true => ⟨k0_dev2 c, k0_dev2_lt c⟩ | false => ⟨k0_dev1 c, k0_dev1_lt c⟩

/-- Where message `k` of direction `b` leaves from and lands, as the kernel computes it. -/
def outOff (b : Bool) (c : Dev nD) (k : Fin 15) : Fin 2 → Nat := match b with
  | true => k0_off2 c (k0_off2_at k).1 (k0_off2_at k).2 | false => k0_off3 c (k0_off3_at k).1 (k0_off3_at k).2
theorem outOff_inb (b : Bool) (c : Dev nD) (k : Fin 15) : ∀ a, outOff b c k a + S256x512.size a ≤ S8192x512.size a := by
  cases b; exacts [k0_off3_inb c k, k0_off2_inb c k]

/-- Where the message of number `k` that comes in lands, as the kernel computes it. -/
def inOff (b : Bool) (c : Dev nD) (k : Fin 15) : Fin 2 → Nat := match b with
  | true => k0_off4 c (k0_off4_at k).1 (k0_off4_at k).2 | false => k0_off5 c (k0_off5_at k).1 (k0_off5_at k).2
theorem inOff_inb (b : Bool) (c : Dev nD) (k : Fin 15) : ∀ a, inOff b c k a + S256x512.size a ≤ S8192x512.size a := by
  cases b; exacts [k0_off5_inb c k, k0_off4_inb c k]

/-! ## The steps -/

/-- A program of the body. -/
abbrev P (F : FTy → Type) : Type 1 := Prog (TpuEff nD τ sig (Elt F) Λ₀ .tc) PUnit

/-- Copy half a block to the same place on device `n`, reporting on `s` here and on `v` there. -/
abbrev copy (n : Dev nD) (off : Fin 2 → Nat) (h : ∀ a, off a + S256x512.size a ≤ S8192x512.size a) (s v : DmaSem sig) : P F :=
  Prog.lift (.enqueueDma (half off h) (.remote (Dev.tc n) (half off h) (.dma s)) (.dma v) (View.wordExact_bits rfl) (View.wordExact_bits rfl) ⟨⟨rfl, Or.inl rfl⟩, trivial⟩)

/-- Wait for half a block's worth of units on `q`. -/
abbrev await (off : Fin 2 → Nat) (h : ∀ a, off a + S256x512.size a ≤ S8192x512.size a) (q : DmaSem sig) : P F :=
  Prog.lift (.waitDma2 q (half off h) (half off h) (View.wordExact_bits rfl) (View.wordExact_bits rfl))

/-- Start message `k` of direction `b`. -/
def start (b : Bool) (c : Dev nD) (k : Fin 15) : P F := copy (toDev b c) (outOff b c k) (outOff_inb b c k) (sendQ b k) (recvQ b k)
/-- Wait for the incoming message `k` of direction `b`. -/
def awaitIn (b : Bool) (c : Dev nD) (k : Fin 15) : P F := await (inOff b c k) (inOff_inb b c k) (recvQ b k)
/-- Wait until message `k` of direction `b` has been read out. -/
def awaitOut (b : Bool) (c : Dev nD) (k : Fin 15) : P F := await (outOff b c k) (outOff_inb b c k) (sendQ b k)

/-! ## The program -/

/-- `f i`, `f (i + 1)`, … `f (i + n - 1)` in order. -/
def loop (f : Fin 15 → P F) : (n i : Nat) → i + n ≤ 15 → P F
  | 0, _, _ => pure ⟨⟩
  | n + 1, i, h => f ⟨i, by omega⟩ >>= fun _ => loop f n (i + 1) (by omega)

/-- The handshake with both neighbours. -/
def handshake (c : Dev nD) : P F :=
  semSignalWord (toDev false c) barS 1#32 >>= fun _ => semSignalWord (toDev true c) barS 1#32 >>= fun _ => semWaitWord barS 2#32

/-- The device's own block, from `x`'s buffer into its place in the result's. -/
def ownBlock (c : Dev nD) : P F :=
  Prog.lift (.load xM (Rect.unit (s := S512x512) ![0, 0] S512x512.size inb_S512x512_S512x512_0_0).toLoadRect (View.loadsAt_vmem h_S512x512)) >>= fun v =>
  Prog.lift (.load oM (Rect.unit (s := S8192x512) (k0_off1 c) S512x512.size (k0_off1_inb c)).toLoadRect (View.loadsAt_vmem h_S512x512)) >>= fun _ =>
  Prog.lift (.store oM (Rect.unit (s := S8192x512) (k0_off1 c) S512x512.size (k0_off1_inb c)) (k0_pay1 v) Finset.univ (View.stores_vmem_bits_univ h_S512x512 rfl) (.inl rfl))

/-- Message `k` of each direction. -/
def startBoth (c : Dev nD) (k : Fin 15) : P F := start true c k >>= fun _ => start false c k
/-- The incoming message `k` of each direction. -/
def awaitInBoth (c : Dev nD) (k : Fin 15) : P F := awaitIn true c k >>= fun _ => awaitIn false c k
/-- The read-out of message `k` of each direction. -/
def awaitOutBoth (c : Dev nD) (k : Fin 15) : P F := awaitOut true c k >>= fun _ => awaitOut false c k
/-- Pass on, as message `k + 2`, what came in as message `k` (for `k < 13`). -/
def forward (c : Dev nD) (k : Fin 15) : P F := awaitInBoth c k >>= fun _ => startBoth c (k + 2)

/-- The whole body on device `c`. -/
def program (c : Dev nD) : P F :=
  handshake c >>= fun _ => ownBlock c >>= fun _ => startBoth c 0 >>= fun _ => startBoth c 1 >>= fun _ =>
  loop (forward c) 13 0 (by omega) >>= fun _ => loop (awaitInBoth c) 2 13 (by omega) >>= fun _ =>
  loop (awaitOutBoth c) 15 0 (by omega)

set_option maxRecDepth 65536 in
set_option maxHeartbeats 4000000 in
/-- The generated body is the program above, run on the device it asks for. -/
theorem body_eq (h0 : xM.IsWhole) (h1 : oM.IsWhole) : cc0_body (F := F) xM h0 oM h1 cc0_scratch0 cc0_scratch1 cc0_scratch2 cc0_scratch3
    = Prog.lift .deviceId >>= program := by
  chain_rfl

end Cert.Gather

end
-- ==== Proof.Geometry.lean ====
/-
  The ring and the half-blocks.

  Sixteen devices stand in a ring. The gathered array is cut into thirty-two half-blocks of 256 rows, numbered from the
  top. Message `k` of direction `b` carries, from device `c`, the half-block numbered `place b c k`. The file states what
  the two facts that make the kernel work are: what arrives as message `k` leaves as message `k + 2`
  (`place_peer`), and a device's own two halves with the thirty that arrive are all thirty-two (`spot_bijective`).
-/
module

public import proofs.«01_k».proof.Proof.Program
public import Idealize.ShloMosaic.Lib.Ring
public import Idealize.ShloMosaic.Lib.Pipeline.Value

@[expose] public section

noncomputable section

namespace Cert.Gather

open Cert.KernelIdeal Cert.KernelIdeal.Gen
open Idealize.ShloMosaic Idealize.ShloMosaic.TcCoe
open Idealize.SL.Sem

/-! ## Neighbours -/

set_option backward.proofsInPublic true in
/-- The neighbour in direction `b`: on the right for `true`, on the left for `false`. -/
def peer (b : Bool) (c : Dev nD) : Dev nD := ⟨(c.val + if b then 1 else 15) % 16, Nat.mod_lt _ (by decide)⟩

/-- One step one way and one the other is no step. -/
theorem peer_peer_not (b : Bool) (c : Dev nD) : peer b (peer (!b) c) = c := by revert b c; decide
theorem peer_not_peer (b : Bool) (c : Dev nD) : peer (!b) (peer b c) = c := by revert b c; decide

/-- The neighbour as a permutation of the devices. -/
def turn (b : Bool) : Dev nD ≃ Dev nD := ⟨peer b, peer (!b), peer_not_peer b, peer_peer_not b⟩

/-- A device is another's neighbour one way when that other is its neighbour the other way. -/
theorem eq_peer_iff (b : Bool) (c d : Dev nD) : c = peer b d ↔ d = peer (!b) c :=
  ⟨fun h => by rw [h, peer_not_peer], fun h => by rw [h, peer_peer_not]⟩

/-- The kernel computes the neighbour. -/
theorem toDev_eq (b : Bool) (c : Dev nD) : toDev b c = peer b c := by
  cases b
  · exact Fin.ext (k0_dev1_eq c)
  · exact Fin.ext (k0_dev2_eq c)

/-! ## Half-blocks -/

/-- The number of the half-block that message `k` of direction `b` carries from device `c`. -/
def place (b : Bool) (c : Dev nD) (k : ℕ) : ℕ :=
  2 * ((c.val + (if b then 15 else 1) * (k / 2)) % 16) + (if b then k % 2 else 1 - k % 2)

/-- The neighbour sends on, two messages later, what it was sent. -/
theorem place_peer (b : Bool) (c : Dev nD) (k : ℕ) : place b (peer b c) (k + 2) = place b c k := by
  unfold place peer; cases b <;> simp <;> omega

/-- The two halves of a device's own block: the first message one way is the second the other way. -/
theorem place_zero (b : Bool) (c : Dev nD) : place b c 0 = place (!b) c 1 := by unfold place; cases b <;> simp

/-- The rows the kernel computes for message `k` are those of its half-block. -/
theorem outOff_eq (b : Bool) (c : Dev nD) (k : Fin 15) : outOff b c k = ![256 * place b c k.val, 0] := by
  revert b c k; decide +kernel

/-- The indices of half-block `p` in the gathered array: rows `256 p` to `256 p + 255`. -/
def rows (p : ℕ) : Finset (S8192x512 : Shape).Idx := Finset.univ.filter fun i => (i 0).val / 256 = p

theorem mem_rows {p : ℕ} {i : (S8192x512 : Shape).Idx} : i ∈ rows p ↔ (i 0).val / 256 = p := by
  unfold rows; rw [Finset.mem_filter]; exact and_iff_right (Finset.mem_univ _)

/-- Different half-blocks share no index. -/
theorem rows_disjoint {p q : ℕ} (h : p ≠ q) : Disjoint (rows p) (rows q) :=
  Finset.disjoint_left.mpr fun _ hp hq => h ((mem_rows.mp hp).symm.trans (mem_rows.mp hq))

/-- A message's view of the gathered array holds the indices of its half-block. -/
theorem half_set {off : Fin 2 → ℕ} (h : ∀ a, off a + S256x512.size a ≤ S8192x512.size a) {p : ℕ} (e : off = ![256 * p, 0]) :
    (half off h).view.set = rows p := by
  subst e
  ext i
  rw [mem_rows]
  show i ∈ ((View.whole cc0_stg1_0).slice (Rect.unit (s := S8192x512) _ S256x512.size h)).set ↔ _
  rw [View.set_slice_whole, Rect.mem_set_unit]
  refine Iff.trans (Fin.forall_fin_two (p := fun a => ![256 * p, 0] a ≤ (i a).val ∧ (i a).val < ![256 * p, 0] a + S256x512.size a)) ?_
  have h1 : (i 1).val < 512 := (i 1).isLt
  simp only [Matrix.cons_val_zero, Matrix.cons_val_one]
  show (256 * p ≤ (i 0).val ∧ (i 0).val < 256 * p + 256) ∧ (0 ≤ (i 1).val ∧ (i 1).val < 0 + 512) ↔ _
  omega

/-- The indices of a device's own block in the gathered array: its two half-blocks. -/
def ownRows (c : Dev nD) : Finset (S8192x512 : Shape).Idx := rows (place true c 0) ∪ rows (place true c 1)

theorem mem_ownRows {c : Dev nD} {i : (S8192x512 : Shape).Idx} : i ∈ ownRows c ↔ (i 0).val / 512 = c.val := by
  unfold ownRows
  rw [Finset.mem_union, mem_rows, mem_rows]
  have hc : c.val < 16 := c.isLt
  unfold place
  simp only [if_true]
  omega

/-- The device's own block as a rectangle of the gathered array. -/
abbrev ownRect (c : Dev nD) : Rect S8192x512 := Rect.unit (s := S8192x512) (k0_off1 c) S512x512.size (k0_off1_inb c)

theorem ownRect_set (c : Dev nD) : (ownRect c).set = ownRows c := by
  ext i
  rw [mem_ownRows, Rect.mem_set_unit, Fin.forall_fin_two, k0_off1_eq]
  have h1 : (i 1).val < 512 := (i 1).isLt
  simp only [Matrix.cons_val_zero, Matrix.cons_val_one]
  show (512 * c.val ≤ (i 0).val ∧ (i 0).val < 512 * c.val + 512) ∧ (0 ≤ (i 1).val ∧ (i 1).val < 0 + 512) ↔ _
  omega

/-! ## All thirty-two -/

/-- The half-blocks as device `c` comes by them, one family for each direction: first one of its own, then the fifteen
    that arrive. -/
def arrival (k : ℕ) : ℕ := if k = 0 then 0 else k + 1
theorem place_lt (b : Bool) (c : Dev nD) (k : ℕ) : place b c k < 32 := by unfold place; cases b <;> simp <;> omega
set_option backward.proofsInPublic true in
def spot (c : Dev nD) (x : Bool × Fin 16) : Fin 32 := ⟨place x.1 c (arrival x.2.val), place_lt _ _ _⟩

/-- They are all thirty-two, each once. -/
theorem spot_bijective (c : Dev nD) : Function.Bijective (spot c) := by
  rw [Fintype.bijective_iff_injective_and_card]
  exact ⟨by revert c; decide +kernel, rfl⟩

/-- The half-blocks a device comes by are disjoint, -/
theorem spot_disjoint (c : Dev nD) (x y : Bool × Fin 16) (h : x ≠ y) :
    Disjoint (rows (place x.1 c (arrival x.2.val))) (rows (place y.1 c (arrival y.2.val))) :=
  rows_disjoint fun e => h ((spot_bijective c).1 (Fin.ext e))

/-- and make up the whole array. -/
theorem spot_cover (c : Dev nD) :
    (Finset.univ : Finset (Bool × Fin 16)).biUnion (fun x => rows (place x.1 c (arrival x.2.val))) = Finset.univ := by
  refine Finset.eq_univ_iff_forall.mpr fun i => ?_
  have hi : (i 0).val < 8192 := (i 0).isLt
  obtain ⟨x, hx⟩ := (spot_bijective c).2 ⟨(i 0).val / 256, by omega⟩
  exact Finset.mem_biUnion.mpr ⟨x, Finset.mem_univ _, mem_rows.mpr (congrArg Fin.val hx).symm⟩

end Cert.Gather

end
-- ==== Proof.Contents.lean ====
/-
  What the buffers hold.

  `gath` is the gathered array: row block `d` is the block device `d` staged. Every device ends up with the same one, so a
  half-block is described wherever it lies by the same contents, on different indices. `landed` says that a message
  carries them over, and `stored` that the device's own block is a part of them.
-/
module

public import proofs.«01_k».proof.Proof.Geometry

@[expose] public section

noncomputable section

namespace Cert.Gather

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The memory the kernel starts from: any contents, every semaphore at zero. -/
def s₀ : MemSt nD τ sig (Elt F) := ⟨m, fun _ => 0, ρ⟩

/-- The block of `x` that device `c` stages. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- The device whose block holds row `r` of the gathered array, and the row within the block. -/
def rowDev (r : Fin 8192) : Dev nD := ⟨r.val / 512, by have := r.isLt; show _ < 16; omega⟩
set_option backward.proofsInPublic true in
def rowIn (r : Fin 8192) : Fin 512 := ⟨r.val % 512, by omega⟩

/-- The gathered array. -/
def gath : (cc0_stg1_0 : Ref sig .tc).ty.Contents (Elt F) := fun (i : (S8192x512 : Shape).Idx) =>
  xstg m ρ (rowDev (i 0)) (Shape.pair (d := ![512, 512]) (rowIn (i 0)) (i 1))

omit [FloatOps F] in
/-- A message leaves at its landing place, of any contents `G` it is sent from, the part that lies there. -/
theorem landed {off : Fin 2 → ℕ} (h : ∀ a, off a + S256x512.size a ≤ S8192x512.size a) (fd G : (cc0_stg1_0 : Ref sig .tc).ty.Contents (Elt F))
    (i : (S8192x512 : Shape).Idx) (hi : i ∈ (half off h).view.set) :
    (half off h).view.write (Elt F) fd ((half off h).view.read (Elt F) G) Finset.univ i = G i := by
  obtain ⟨x, -, rfl⟩ := Finset.mem_map.mp hi
  refine ((half off h).view.write_emb_of_mem fd _ (Finset.mem_univ x)).trans ?_
  rw [View.read_apply, cast_cast]
  rfl

abbrev xRect : Rect S512x512 := Rect.unit (s := S512x512) ![0, 0] S512x512.size inb_S512x512_S512x512_0_0

omit [FloatOps F] in
theorem zeros : (![0, 0] : Fin 2 → ℕ) = fun _ => 0 := funext fun a => by fin_cases a <;> rfl

/-- Reading the whole of `x`'s buffer gives what it holds. -/
theorem read_x (f : (cc0_stg0_0 : Ref sig .tc).ty.Contents (Elt F)) :
    k0_pay1 (xM.view.readAt (Elt F) xRect.toLoadRect f) = f := by
  unfold k0_pay1
  exact (shapeCast_self _ _).trans (Memref.readAt_unit_zero (Elt F) cc0_stg0_0 zeros _ _)

/-- What is stored over a device's own rows, whatever lay there, is the gathered array's part. -/
theorem stored (c : Dev nD) (f : (cc0_stg1_0 : Ref sig .tc).ty.Contents (Elt F)) (i : (S8192x512 : Shape).Idx) (hi : i ∈ ownRows c) :
    (oM.access (ownRect c)).write (Elt F) f (k0_pay1 (xM.view.readAt (Elt F) xRect.toLoadRect (xstg m ρ c))) Finset.univ i = gath m ρ i := by
  rw [read_x]
  have hc := mem_ownRows.mp hi
  have hi' : i ∈ (oM.access (ownRect c)).set := by
    show i ∈ ((View.whole cc0_stg1_0).slice (ownRect c)).set
    rw [View.set_slice_whole, ownRect_set]; exact hi
  obtain ⟨x, -, rfl⟩ := Finset.mem_map.mp hi'
  refine ((oM.access (ownRect c)).write_emb_of_mem f _ (Finset.mem_univ x)).trans ?_
  have h0 : (((oM.access (ownRect c)).emb x) 0).val = 512 * c.val + (x 0).val := by
    show (k0_off1 c 0 + 1 * (x 0).val) = _
    rw [k0_off1_eq]; simp
  have h1 : (((oM.access (ownRect c)).emb x) 1).val = (x 1).val := by
    show (k0_off1 c 1 + 1 * (x 1).val) = _
    rw [k0_off1_eq]; simp
  have hx : (x 0).val < 512 := (x 0).isLt
  have hd : rowDev (((oM.access (ownRect c)).emb x) 0) = c := Fin.ext hc
  show xstg m ρ c x = xstg m ρ (rowDev (((oM.access (ownRect c)).emb x) 0)) _
  rw [hd]
  refine congrArg (xstg m ρ c) ?_
  refine funext fun a => ?_
  fin_cases a
  · refine Fin.ext ?_
    show (x 0).val = (((oM.access (ownRect c)).emb x) 0).val % 512
    rw [h0]; omega
  · refine Fin.ext ?_
    show (x 1).val = (((oM.access (ownRect c)).emb x) 1).val
    exact h1.symm

end Cert.Gather

end
-- ==== Proof.Schedule.lean ====
/-
  Who pays what to whom.

  Each device has sixty-one semaphores of the kernel's: the barrier, and for each message one on which its source is
  reported read and one on which its landing is reported. Every one of them is used for one round.

  * A barrier expects one unit from each neighbour. With it the neighbour hands over, for good, the rows of its own result
    that the device's messages will land in (`landing`).
  * A landing semaphore expects the message's credit. With it comes the message, landed (`piece`).
  * A read-out semaphore expects the same credit. With it comes back what was sent. The two halves of a device's own block
    go both ways at once, so each of these four messages reads one half share of its source.

  The levels order the waits: the barrier lies below every landing, landing `k` below landing `k + 1`.
-/
module

public import proofs.«01_k».proof.Proof.Contents

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores -/

/-- The kernel's DMA semaphores: for `(true, b, k)` the landing of message `k` of direction `b`, for `(false, b, k)` its
    read-out. -/
abbrev Slot : Type := Bool × Bool × Fin 15
set_option backward.proofsInPublic true in
def slotQ (x : Slot) : DmaSem sig := if x.1 then recvQ x.2.1 x.2.2 else sendQ x.2.1 x.2.2
/-- The same as semaphores, -/
abbrev osem (x : Slot) : SemLoc sig := .dma (slotQ x)
/-- and with the barrier. -/
def csem (x : Option Slot) : SemLoc sig := match x with | none => .reg barS | some x => osem x

theorem slotQ_injective : Function.Injective slotQ := by decide +kernel
theorem csem_injective : Function.Injective csem
  | none, none, _ => rfl
  | none, some _, h => by cases h
  | some _, none, h => by cases h
  | some x, some y, h => congrArg some (slotQ_injective (SemLoc.dma.inj h))

/-- The semaphore as one of these, if it is. -/
def slotOf (s : SemLoc sig) : Option (Option Slot) := Function.partialInv csem s
theorem slotOf_csem (x : Option Slot) : slotOf (csem x) = some x := Function.partialInv_left csem_injective x
theorem slotOf_osem (x : Slot) : slotOf (osem x) = some (some x) := slotOf_csem (some x)
theorem slotOf_bar : slotOf (.reg barS) = some none := slotOf_csem none
/-- A staging semaphore is none of them. -/
theorem slotOf_low (q : DmaSem sig) (h : ∀ x, slotQ x ≠ q) : slotOf (.dma q) = none := by
  refine Option.eq_none_iff_forall_not_mem.mpr fun y hy => ?_
  have := (Function.partialInv_of_injective csem_injective y _).mp hy
  cases y with
  | none => cases this
  | some y => exact h y (SemLoc.dma.inj this)

/-- On device `c`: -/
abbrev cell (ck : Dev nD × Option Slot) : GSem nD τ sig := ((ck.1 : Thread nD τ), csem ck.2)
abbrev barCell (c : Dev nD) : GSem nD τ sig := cell (c, none)
abbrev recvCell (b : Bool) (c : Dev nD) (k : Fin 15) : GSem nD τ sig := cell (c, some (true, b, k))
abbrev sendCell (b : Bool) (c : Dev nD) (k : Fin 15) : GSem nD τ sig := cell (c, some (false, b, k))

theorem cell_injective : Function.Injective cell := by
  rintro ⟨c, x⟩ ⟨d, y⟩ h
  have h1 : c = d := congrArg (fun g : GSem nD τ sig => g.1.1) h
  have h2 : x = y := csem_injective (congrArg Prod.snd h)
  rw [h1, h2]

/-- The credit of a message. -/
abbrev N : ℕ := (half ![0, 0] (by decide)).view.dmaCredit
theorem N_pos : 0 < N := View.dmaCredit_pos _ (by decide)

/-! ## The resources -/

/-- The rows of half-block `p` of device `c`'s result, at contents `f`. -/
def part (q : PosShare TreeShare) (c : Dev nD) (p : ℕ) (f : (cc0_stg1_0 : Ref sig .tc).ty.Contents (Elt F)) : sProp 𝕄 :=
  oM.view.loc (c : Thread nD τ) ↦[rows p]{q} f

/-- The half-block of message `k` of direction `b` from `c`, there, as gathered. -/
def piece (q : PosShare TreeShare) (b : Bool) (c : Dev nD) (k : ℕ) : sProp 𝕄 := part q c (place b c k) (gath m ρ)

/-- The share of its source a message reads: the first two of each direction read the same rows as two of the other. -/
def shareOf (b : Bool) (k : ℕ) : PosShare TreeShare := if k < 2 then (if b then fullShare.left else fullShare.right) else fullShare

/-- The rows message `k` of direction `b` from `c` lands in, at any contents. -/
def landing (b : Bool) (c : Dev nD) (k : ℕ) : sProp 𝕄 := iprop(∃ f, part fullShare (peer b c) (place b c k) f)
/-- All of them, for one direction: what the neighbour in that direction hands over in the handshake. -/
def landings (b : Bool) (c : Dev nD) : sProp 𝕄 := bigSep (Finset.Ico 0 15) fun k => landing b c k

instance part_storable (q : PosShare TreeShare) (c : Dev nD) (p : ℕ) (f) : BI.Storable (upEmb : UEmb _ 𝕄) (part (F := F) q c p f) := by
  unfold part; infer_instance
instance piece_storable (q : PosShare TreeShare) (b : Bool) (c : Dev nD) (k : ℕ) : BI.Storable (upEmb : UEmb _ 𝕄) (piece (F := F) m ρ q b c k) := by
  unfold piece; infer_instance
instance landings_storable (b : Bool) (c : Dev nD) : BI.Storable (upEmb : UEmb _ 𝕄) (landings (F := F) b c) := by
  unfold landings landing; infer_instance

/-! ## The schedule -/

/-- What a duty on semaphore `x` of device `c` pays with. -/
def pay (c : Dev nD) (x : Option (Option Slot)) (d : Bool) : sProp 𝕄 := match x with
  | none => iprop(emp)
  | some none => landings d c
  | some (some (true, b, k)) => piece m ρ fullShare b c (k.val + 2)
  | some (some (false, b, k)) => piece m ρ (shareOf b k.val) b c k.val

/-- The duties of semaphore `x`: one of each neighbour on a barrier, one on any other. -/
def dutiesOf (x : Option (Option Slot)) : Finset Bool := match x with
  | none => ∅ | some none => Finset.univ | some (some _) => {false}
def amountOf (x : Option (Option Slot)) : ℕ := match x with | some none => 1 | _ => N

def Rd : Rounds.Schedule (GSem nD τ sig) Bool 𝕄 where
  duties g r := if r = 0 ∧ g.1.2 = .tc then dutiesOf (slotOf g.2) else ∅
  unitless _ := False
  amount g _ _ := amountOf (slotOf g.2)
  payload g _ d := pay m ρ g.1.1 (slotOf g.2) d
  amount_pos g _ _ _ := by
    unfold amountOf; split
    · exact Nat.one_pos
    · exact N_pos

instance Rd_payload_storable (g : GSem nD τ sig) (r : ℕ) (d : Bool) : BI.Storable (upEmb : UEmb _ 𝕄) ((Rd (F := F) m ρ).payload g r d) := by
  show BI.Storable upEmb (pay m ρ g.1.1 (slotOf g.2) d)
  unfold pay; split <;> infer_instance

theorem duties_cell (c : Dev nD) (x : Option Slot) : (Rd (F := F) m ρ).duties (cell (c, x)) 0 = dutiesOf (some x) := by
  dsimp only [Rd]
  rw [if_pos ⟨rfl, rfl⟩]
  exact congrArg dutiesOf (slotOf_csem x)
theorem duties_later (g : GSem nD τ sig) : ∀ r, 1 ≤ r → (Rd (F := F) m ρ).duties g r = ∅ :=
  fun r hr => if_neg fun h => by omega
theorem amount_cell (c : Dev nD) (x : Option Slot) (d : Bool) : (Rd (F := F) m ρ).amount (cell (c, x)) 0 d = amountOf (some x) := by
  show amountOf (slotOf (csem x)) = _
  rw [slotOf_csem]
theorem payload_cell (c : Dev nD) (x : Option Slot) (d : Bool) : (Rd (F := F) m ρ).payload (cell (c, x)) 0 d = pay m ρ c (some x) d := by
  show pay m ρ c (slotOf (csem x)) d = _
  rw [slotOf_csem]

theorem expect_bar (c : Dev nD) : (Rd (F := F) m ρ).expect (barCell c) 0 = 2 := by
  unfold Schedule.expect Schedule.amountOf
  rw [duties_cell, Finset.sum_congr rfl fun d _ => amount_cell m ρ c none d]; rfl
theorem expect_slot (c : Dev nD) (x : Slot) : (Rd (F := F) m ρ).expect (cell (c, some x)) 0 = N := by
  unfold Schedule.expect Schedule.amountOf
  rw [duties_cell, show dutiesOf (some (some x)) = {false} from rfl, Finset.sum_singleton, amount_cell]; rfl

theorem bigSep_bool (Φ : Bool → sProp 𝕄) : bigSep Finset.univ Φ = iprop(Φ true ∗ Φ false) :=
  bigSep_univ_eq_bigSepL [true, false] (by decide) (by decide) Φ

/-- All that a barrier's wait brings. -/
theorem rest_bar (c : Dev nD) :
    bigSep ((Rd (F := F) m ρ).duties (barCell c) 0 \ ∅) (fun d => (Rd (F := F) m ρ).payload (barCell c) 0 d) = iprop(landings true c ∗ landings false c) := by
  rw [Finset.sdiff_empty, duties_cell, bigSep_congr fun d _ => payload_cell m ρ c none d]
  exact bigSep_bool _
/-- All that another wait brings. -/
theorem rest_slot (c : Dev nD) (x : Slot) :
    bigSep ((Rd (F := F) m ρ).duties (cell (c, some x)) 0 \ ∅) (fun d => (Rd (F := F) m ρ).payload (cell (c, some x)) 0 d) = pay m ρ c (some (some x)) false := by
  rw [Finset.sdiff_empty, duties_cell, show dutiesOf (some (some x)) = {false} from rfl, bigSep_singleton, payload_cell]

/-! ## Debts and levels -/

/-- What device `c` owes for the messages of direction `b` from number `n` on. -/
def oweSide (b : Bool) (c : Dev nD) (n : ℕ) : CellTallies nD τ sig Unit :=
  ∑ k : Fin 15, if n ≤ k.val then tallyAt (recvCell b (peer b c) k) () N else 0
/-- What it owes for both directions. -/
def owe (c : Dev nD) (n n' : ℕ) : CellTallies nD τ sig Unit := oweSide true c n + oweSide false c n'

/-- Message `k` pays its part. -/
theorem oweSide_step (b : Bool) (c : Dev nD) (k : Fin 15) :
    oweSide b c k.val = oweSide b c (k.val + 1) + tallyAt (recvCell b (peer b c) k) () N := by
  unfold oweSide
  rw [Fintype.sum_eq_add_sum_compl k, if_pos (Nat.le_refl _), Fintype.sum_eq_add_sum_compl k, if_neg (Nat.not_succ_le_self _), zero_add, add_comm]
  refine congrArg (· + _) (Finset.sum_congr rfl fun j hj => ?_)
  have hne : j.val ≠ k.val := fun e => (Finset.mem_compl.mp hj) (Finset.mem_singleton.mpr (Fin.ext e))
  by_cases h : k.val ≤ j.val
  · rw [if_pos h, if_pos (by omega)]
  · rw [if_neg h, if_neg (by omega)]

theorem oweSide_done (b : Bool) (c : Dev nD) : oweSide b c 15 = 0 :=
  Finset.sum_eq_zero fun k _ => if_neg (by have := k.isLt; omega)
theorem owe_done (c : Dev nD) : owe c 15 15 = 0 := by unfold owe; rw [oweSide_done, oweSide_done, add_zero]

/-- At launch a device owes, besides all its messages, a unit to each neighbour's barrier. -/
def O₁ (c : Dev nD) : CellTallies nD τ sig Unit := owe c 0 0 + tallyAt (barCell (peer true c)) () 1
def O₀ (c : Dev nD) : CellTallies nD τ sig Unit := O₁ c + tallyAt (barCell (peer false c)) () 1

theorem oweSide_apply (b : Bool) (c : Dev nD) (n : ℕ) (g : GSem nD τ sig) :
    oweSide b c n g () = ∑ k : Fin 15, if n ≤ k.val ∧ g = recvCell b (peer b c) k then N else 0 := by
  unfold oweSide
  rw [Finset.sum_apply, Finsupp.finset_sum_apply]
  refine Finset.sum_congr rfl fun k _ => ?_
  by_cases h : n ≤ k.val
  · rw [if_pos h, tallyAt_apply]; simp [h]
  · rw [if_neg h, if_neg (fun h' => h h'.1)]; rfl

theorem oweSide_pos {b : Bool} {c : Dev nD} {n : ℕ} {g : GSem nD τ sig} {u : Unit} (h : 0 < oweSide b c n g u) :
    ∃ k : Fin 15, n ≤ k.val ∧ g = recvCell b (peer b c) k := by
  cases u
  rw [oweSide_apply] at h
  obtain ⟨k, -, hk⟩ := Finset.exists_ne_zero_of_sum_ne_zero (Nat.pos_iff_ne_zero.mp h)
  exact ⟨k, by by_contra hn; exact hk (if_neg hn)⟩

/-- A debt to one of two is to the one or to the other. -/
theorem add_pos_cases {A B : CellTallies nD τ sig Unit} {g : GSem nD τ sig} {u : Unit} (h : 0 < (A + B) g u) : 0 < A g u ∨ 0 < B g u := by
  rw [Pi.add_apply, Finsupp.add_apply] at h
  rcases Nat.eq_zero_or_pos (A g u) with h0 | h0
  · rw [h0, zero_add] at h; exact .inr h
  · exact .inl h0
theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

/-- A debt of messages only is to landing semaphores. -/
theorem owe_pos {c : Dev nD} {n : ℕ} {g : GSem nD τ sig} {u : Unit} (h : 0 < owe c n n g u) :
    ∃ (b : Bool) (k : Fin 15), n ≤ k.val ∧ g = recvCell b (peer b c) k := by
  rcases add_pos_cases h with h | h
  · exact ⟨true, oweSide_pos h⟩
  · exact ⟨false, oweSide_pos h⟩

theorem O₀_pos {c : Dev nD} {g : GSem nD τ sig} {u : Unit} (h : 0 < O₀ c g u) :
    (∃ (b : Bool) (k : Fin 15), g = recvCell b (peer b c) k) ∨ ∃ b : Bool, g = barCell (peer b c) := by
  rcases add_pos_cases h with h | h
  · rcases add_pos_cases h with h | h
    · obtain ⟨b, k, -, hk⟩ := owe_pos h
      exact .inl ⟨b, k, hk⟩
    · exact .inr ⟨true, tallyAt_pos h⟩
  · exact .inr ⟨false, tallyAt_pos h⟩

/-- Every semaphore of a tensor core has a level: -/
def L (g : GSem nD τ sig) : Finset Unit := if g.1.2 = .tc then {()} else ∅
/-- a barrier's is 1, landing `k`'s is `k + 2`, any other's is 0. -/
def lvOf (x : Option (Option Slot)) : ℕ := match x with | some none => 1 | some (some (true, _, k)) => k.val + 2 | _ => 0
def lv (g : GSem nD τ sig) (_ : Unit) : ℕ := lvOf (slotOf g.2)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (x : Option Slot) : lv (cell (c, x)) () = lvOf (some x) := congrArg lvOf (slotOf_csem x)

/-- A device may wait on a semaphore below everything it owes. -/
theorem mayWait_below (c : Dev nD) (s : SemLoc sig) (O : CellTallies nD τ sig Unit) (l : ℕ) (hs : lvOf (slotOf s) ≤ l)
    (hO : ∀ g u, 0 < O g u → ∃ d x, g = cell (d, x) ∧ l < lvOf (some x)) :
    (levAts L lv : sProp 𝕄) ⊢ MayWait (c : Thread nD τ) s () O :=
  MayOwe.of_cut (L := L) (lev := lv) l (fun p hp => by rw [Finset.mem_singleton.mp hp, L_tc]; exact Finset.mem_singleton_self _)
    (fun g u hg => by obtain ⟨d, x, rfl, -⟩ := hO g u hg; exact Finset.mem_singleton_self _)
    (fun p hp => by rw [Finset.mem_singleton.mp hp]; exact hs)
    (fun g u hg => by obtain ⟨d, x, rfl, hl⟩ := hO g u hg; rw [show u = () from rfl, lv_cell]; exact hl)

/-- Before the start and after the end a device may wait for its staging. -/
theorem mayWait_stage (c : Dev nD) (q : DmaSem sig) (hq : ∀ x, slotQ x ≠ q) (O : CellTallies nD τ sig Unit) (hO : O = O₀ c ∨ O = 0) :
    (levAts L lv : sProp 𝕄) ⊢ MayWait (c : Thread nD τ) (.dma q) () O := by
  rcases hO with rfl | rfl
  · refine mayWait_below c _ _ 0 (by rw [slotOf_low q hq]; exact Nat.le_refl _) fun g u h => ?_
    rcases O₀_pos h with ⟨b, k, rfl⟩ | ⟨b, rfl⟩
    · exact ⟨_, _, rfl, Nat.succ_pos _⟩
    · exact ⟨_, _, rfl, Nat.one_pos⟩
  · rw [MayWait_zero]; iintro -; iempintro

/-- Owing the messages from `n` on, it may wait on any semaphore of level at most `n + 1`. -/
theorem mayWait_owe (c : Dev nD) (x : Option Slot) (n : ℕ) (hx : lvOf (some x) ≤ n + 1) :
    (levAts L lv : sProp 𝕄) ⊢ MayWait (c : Thread nD τ) (csem x) () (owe c n n) :=
  mayWait_below c _ _ (n + 1) (by rw [slotOf_csem]; exact hx) fun g u h => by
    obtain ⟨b, k, hk, rfl⟩ := owe_pos h
    exact ⟨_, _, rfl, by show n + 1 < k.val + 2; omega⟩

end Cert.Gather

end
-- ==== Proof.Steps.lean ====
/-
  The steps, one rule for each: the start of a message (`run_start`), the wait for one that comes in (`run_awaitIn`), the
  wait for a read-out (`run_awaitOut`), the handshake (`run_handshake`), and the copy of the device's own block
  (`run_ownBlock`). Each holds for every device, both directions and every message.
-/
module

public import proofs.«01_k».proof.Proof.Schedule

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Slot → ℕ)

abbrev 𝒱₀ : Variants := Variants.none

/-- `e` run by device `c` ends in `Q`. -/
abbrev run (c : Dev nD) (e : P F) (Q : PUnit → sProp 𝕄) : sProp 𝕄 :=
  wp frame (wpE (defs₀ (F := F)) 𝒱₀ (c : Thread nD τ) none) Set.univ e Q

/-- One program after another. -/
theorem run_seq (c : Dev nD) (e : P F) (k : PUnit → P F) (Q : PUnit → sProp 𝕄) : run c (e >>= k) Q = run c e fun x => run c (k x) Q := by
  unfold run; rw [wp_bind_eq]; rfl

/-- Device `c` owes `O`. -/
def debt (c : Dev nD) (O : CellTallies nD τ sig Unit) : sProp 𝕄 := iprop(∃ W, owes (c : Thread nD τ) O W)

/-- What all devices know: every semaphore follows the schedule, and has reached its round. -/
def records : sProp 𝕄 :=
  iprop((bigSep Finset.univ fun ck : Dev nD × Option Slot => cellInv ER (Rd m ρ) (K ck) (cell ck))
    ∗ bigSep Finset.univ fun ck : Dev nD × Option Slot => reached ER (cell ck) 0)

instance records_persistent : BI.Persistent (records m ρ K) := by unfold records; infer_instance

theorem inv_of (ck : Dev nD × Option Slot) : records m ρ K ⊢ cellInv ER (Rd m ρ) (K ck) (cell ck) := by
  unfold records
  have h : (bigSep Finset.univ fun ck : Dev nD × Option Slot => (cellInv ER (Rd m ρ) (K ck) (cell ck) : sProp 𝕄)) ⊢ cellInv ER (Rd m ρ) (K ck) (cell ck) :=
    bigSep_elim (Finset.mem_univ ck)
  iintro ⟨H, -⟩
  iapply h; iexact H
theorem reached_of (ck : Dev nD × Option Slot) : records m ρ K ⊢ reached ER (cell ck) 0 := by
  unfold records
  have h : (bigSep Finset.univ fun ck : Dev nD × Option Slot => (reached ER (cell ck) 0 : sProp 𝕄)) ⊢ reached ER (cell ck) 0 :=
    bigSep_elim (Finset.mem_univ ck)
  iintro ⟨-, H⟩
  iapply h; iexact H

/-- A half-block's rows are those of a message's view. -/
theorem part_eq {off : Fin 2 → ℕ} (h : ∀ a, off a + S256x512.size a ≤ S8192x512.size a) {p : ℕ} (e : off = ![256 * p, 0])
    (q : PosShare TreeShare) (c : Dev nD) (f : (cc0_stg1_0 : Ref sig .tc).ty.Contents (Elt F)) :
    (part q c p f : sProp 𝕄) = ((half off h).view.loc (c : Thread nD τ) ↦[(half off h).view.set]{q} f) := by
  unfold part; rw [half_set h e]

/-! ## Messages -/

theorem mem_duties (c : Dev nD) (x : Slot) : false ∈ (Rd (F := F) m ρ).duties (cell (c, some x)) 0 := by
  rw [duties_cell]; exact Finset.mem_singleton_self _

/-- A copy of the rows of message `k`, by the rule of an addressed transfer: the rows read and the rows written over pay the
    two duties. -/
theorem run_copy (b : Bool) (c : Dev nD) (k : Fin 15) (n : Dev nD) (hn : n = peer b c) (off : Fin 2 → ℕ)
    (h : ∀ a, off a + S256x512.size a ≤ S8192x512.size a) (e : off = ![256 * place b c k.val, 0])
    (O O' : CellTallies nD τ sig Unit) (hO : O = O' + tallyAt (recvCell b (peer b c) k) () N) (Q : PUnit → sProp 𝕄) :
    iprop(records m ρ K ∗ piece m ρ (shareOf b k.val) b c k.val ∗ landing b c k.val ∗ debt c O
        ∗ dutyTok ER (sendCell b c k) 0 false ∗ dutyTok ER (recvCell b (peer b c) k) 0 false)
      ⊢ iprop(((cred (tallyAt (sendCell b c k) () N) ∗ debt c O') -∗ Q ⟨⟩) -∗ run c (copy n off h (sendQ b k) (recvQ b k)) Q) := by
  subst hn
  unfold landing debt piece copy Prog.lift run
  simp only [part_eq h e]
  iintro ⟨#HR, Hs, ⟨%fd, Hd⟩, ⟨%W, HO⟩, Hts, Htr⟩ Hk
  iapply (Rounds.wp_send_pointsTo 𝒱₀ ER (Rd m ρ) (c : Thread nD τ) none (c' := (peer b c : Thread nD τ))
    (src := half off h) (dst := half off h) (sS := .dma (sendQ b k)) (sem := .dma (recvQ b k))
    (κ₁ := K (c, some (false, b, k))) (κ₂ := K (peer b c, some (true, b, k)))
    (r₁ := 0) (r₂ := 0) (d₁ := false) (d₂ := false) (fd := fd) (fs := gath m ρ) (q := shareOf b k.val)
    (mem_duties m ρ c (false, b, k)) (mem_duties m ρ (peer b c) (true, b, k))
    () () N rfl (amount_cell m ρ c (some (false, b, k)) false) (amount_cell m ρ (peer b c) (some (true, b, k)) false) O' hO (W := W)
    ((Entails.of_eq (show _ = piece m ρ (shareOf b k.val) b c k.val from by unfold piece; rw [part_eq h e])).trans
      (Entails.of_eq (payload_cell m ρ c (some (false, b, k)) false).symm))
    ((Entails.of_eq (show _ = piece m ρ fullShare b (peer b c) (k.val + 2) from by
        rw [pointsTo_congr (landed h fd (gath m ρ))]; unfold piece; rw [place_peer, part_eq h e])).trans
      (Entails.of_eq (payload_cell m ρ (peer b c) (some (true, b, k)) false).symm))) $$ [Hs Hd HO Hts Htr]
  · isplitr; · iapply (inv_of m ρ K (c, some (false, b, k))); iexact HR
    isplitr; · iapply (inv_of m ρ K (peer b c, some (true, b, k))); iexact HR
    isplitl [Hs]; · iexact Hs
    isplitl [Hd]; · iexact Hd
    isplitl [HO]; · iexact HO
    isplitl [Hts]; · iexact Hts
    isplitr; · iapply (reached_of m ρ K (c, some (false, b, k))); iexact HR
    isplitl [Htr]; · iexact Htr
    iapply (reached_of m ρ K (peer b c, some (true, b, k))); iexact HR
  iintro ⟨Hc, HO⟩
  rw [wp_ret]; imodintro
  iapply Hk
  isplitl [Hc]; · iexact Hc
  iexists W; iexact HO

/-- The start of message `k` of direction `b`. -/
theorem run_start (b : Bool) (c : Dev nD) (k : Fin 15) (O O' : CellTallies nD τ sig Unit) (hO : O = O' + tallyAt (recvCell b (peer b c) k) () N)
    (Q : PUnit → sProp 𝕄) :
    iprop(records m ρ K ∗ piece m ρ (shareOf b k.val) b c k.val ∗ landing b c k.val ∗ debt c O
        ∗ dutyTok ER (sendCell b c k) 0 false ∗ dutyTok ER (recvCell b (peer b c) k) 0 false)
      ⊢ iprop(((cred (tallyAt (sendCell b c k) () N) ∗ debt c O') -∗ Q ⟨⟩) -∗ run c (start b c k) Q) :=
  run_copy m ρ K b c k _ (toDev_eq b c) _ _ (outOff_eq b c k) O O' hO Q

/-- A wait for a message's credit on semaphore `x`, of rows that are any half-block's: it brings what the schedule says. -/
theorem run_await (c : Dev nD) (x : Slot) (off : Fin 2 → ℕ) (h : ∀ a, off a + S256x512.size a ≤ S8192x512.size a)
    (O : CellTallies nD τ sig Unit) (hO : (levAts L lv : sProp 𝕄) ⊢ MayWait (c : Thread nD τ) (csem (some x)) () O) (Q : PUnit → sProp 𝕄) :
    iprop(records m ρ K ∗ levAts L lv ∗ debt c O ∗ cred (tallyAt (cell (c, some x)) () N) ∗ atPos ER (cell (c, some x)) 0 ∅ 0)
      ⊢ iprop(((debt c O ∗ atPos ER (cell (c, some x)) 1 ∅ 0 ∗ pay m ρ c (some (some x)) false) -∗ Q ⟨⟩) -∗ run c (await off h (slotQ x)) Q) := by
  unfold debt await Prog.lift run
  iintro ⟨#HR, #HL, ⟨%W, HO⟩, Hc, Ha⟩ Hk
  iapply (Rounds.wp_wait_rest_token 𝒱₀ ER (Rd m ρ) (c : Thread nD τ) none (κ := K (c, some x))
      (wpE_waitDma2_eq 𝒱₀ (c : Thread nD τ) none Set.univ) (Set.mem_univ _) () (O := O) (W := W) (R := 0) (m := 0) (T := ∅)
      (by rw [Nat.zero_add, show (half off h).view.dmaCredit = N from rfl]; exact (expect_slot m ρ c x).symm)) $$ [Hc HO Ha]
  · isplitr; · iapply (inv_of m ρ K (c, some x)); iexact HR
    isplitl [Hc]; · iexact Hc
    isplitl [HO]; · iexact HO
    isplitr; · iapply hO; iexact HL
    iexact Ha
  iintro ⟨HO, Ha, -, Hp⟩
  rw [wp_ret]; imodintro
  iapply Hk
  isplitl [HO]; · iexists _; iexact HO
  isplitl [Ha]; · iexact Ha
  iapply (Entails.of_eq (rest_slot m ρ c x)); iexact Hp

/-- Message `k` of direction `b` arrives; messages from number `n > k` on are still owed. -/
theorem run_awaitIn (b : Bool) (c : Dev nD) (k : Fin 15) (n : ℕ) (hn : k.val < n) (Q : PUnit → sProp 𝕄) :
    iprop(records m ρ K ∗ levAts L lv ∗ debt c (owe c n n) ∗ cred (tallyAt (recvCell b c k) () N) ∗ atPos ER (recvCell b c k) 0 ∅ 0)
      ⊢ iprop(((debt c (owe c n n) ∗ atPos ER (recvCell b c k) 1 ∅ 0 ∗ piece m ρ fullShare b c (k.val + 2)) -∗ Q ⟨⟩)
          -∗ run c (awaitIn b c k) Q) :=
  run_await m ρ K c (true, b, k) _ _ (owe c n n) (mayWait_owe c _ n (by show k.val + 2 ≤ n + 1; omega)) Q

/-- The source of message `k` of direction `b` comes back; nothing is owed. -/
theorem run_awaitOut (b : Bool) (c : Dev nD) (k : Fin 15) (Q : PUnit → sProp 𝕄) :
    iprop(records m ρ K ∗ levAts L lv ∗ debt c 0 ∗ cred (tallyAt (sendCell b c k) () N) ∗ atPos ER (sendCell b c k) 0 ∅ 0)
      ⊢ iprop(((debt c 0 ∗ atPos ER (sendCell b c k) 1 ∅ 0 ∗ piece m ρ (shareOf b k.val) b c k.val) -∗ Q ⟨⟩)
          -∗ run c (awaitOut b c k) Q) :=
  run_await m ρ K c (false, b, k) _ _ 0 (by rw [MayWait_zero]; iintro -; iempintro) Q

/-! ## The handshake -/

theorem mem_duties_bar (c : Dev nD) (d : Bool) : d ∈ (Rd (F := F) m ρ).duties (barCell c) 0 := by
  rw [duties_cell]; exact Finset.mem_univ _

/-- A signal to the neighbour in direction `b` hands it the rows its messages of the other direction land in. -/
theorem run_signal (b : Bool) (c n : Dev nD) (hn : n = peer b c) (O O' : CellTallies nD τ sig Unit) (hO : O = O' + tallyAt (barCell (peer b c)) () 1)
    (Q : PUnit → sProp 𝕄) :
    iprop(records m ρ K ∗ landings (!b) (peer b c) ∗ debt c O ∗ dutyTok ER (barCell (peer b c)) 0 (!b))
      ⊢ iprop((debt c O' -∗ Q ⟨⟩) -∗ run c (semSignalWord n barS 1#32) Q) := by
  subst hn
  have hp : (landings (!b) (peer b c) : sProp 𝕄) ⊢ (Rd m ρ).payload ((peer b c : Thread nD τ), .reg barS) 0 (!b) :=
    Entails.of_eq (payload_cell m ρ (peer b c) none (!b)).symm
  unfold debt run
  simp only [semSignalWord, Prog.lift]
  iintro ⟨#HR, Hl, ⟨%W, HO⟩, Ht⟩ Hk
  iapply (Rounds.wp_signal 𝒱₀ ER (Rd m ρ) (c : Thread nD τ) none (dst := (peer b c : Thread nD τ)) (κ := K (peer b c, none))
      (d := !b) (mem_duties_bar m ρ (peer b c) (!b)) ((amount_cell m ρ (peer b c) none _).trans (by decide)) () O' hO)
    $$ [HO Ht Hl]
  · isplitr; · iapply (inv_of m ρ K (peer b c, none)); iexact HR
    isplitl [HO]; · iexact HO
    isplitl [Ht]; · iexact Ht
    isplitl [Hl]
    · iapply hp; iexact Hl
    iapply (reached_of m ρ K (peer b c, none)); iexact HR
  iintro HO
  rw [wp_ret]; imodintro
  iapply Hk
  iexists W; iexact HO

/-- The wait for both neighbours' signals brings the rows its own messages land in. -/
theorem run_gate (c : Dev nD) (Q : PUnit → sProp 𝕄) :
    iprop(records m ρ K ∗ levAts L lv ∗ debt c (owe c 0 0) ∗ cred (tallyAt (barCell c) () 2) ∗ atPos ER (barCell c) 0 ∅ 0)
      ⊢ iprop(((debt c (owe c 0 0) ∗ atPos ER (barCell c) 1 ∅ 0 ∗ landings true c ∗ landings false c) -∗ Q ⟨⟩) -∗ run c (semWaitWord barS 2#32) Q) := by
  unfold debt run
  simp only [semWaitWord, Prog.lift]
  iintro ⟨#HR, #HL, ⟨%W, HO⟩, Hc, Ha⟩ Hk
  iapply (Rounds.wp_wait_rest_token 𝒱₀ ER (Rd m ρ) (c : Thread nD τ) none (κ := K (c, none))
      (wpE_semWait_eq 𝒱₀ (c : Thread nD τ) none Set.univ) (Set.mem_univ _) () (O := owe c 0 0) (W := W) (R := 0) (m := 0) (T := ∅)
      ((by decide : 0 + (2#32 : BitVec 32).toNat = 2).trans (expect_bar m ρ c).symm)) $$ [Hc HO Ha]
  · isplitr; · iapply (inv_of m ρ K (c, none)); iexact HR
    isplitl [Hc]; · iexact Hc
    isplitl [HO]; · iexact HO
    isplitr; · iapply (mayWait_owe c none 0 (by decide)); iexact HL
    iexact Ha
  iintro ⟨HO, Ha, -, Hp⟩
  rw [wp_ret]; imodintro
  iapply Hk
  isplitl [HO]; · iexists _; iexact HO
  isplitl [Ha]; · iexact Ha
  iapply (Entails.of_eq (rest_bar m ρ c)); iexact Hp

/-- The handshake: a device gives away all rows that messages land in here, and is given those they land in there. -/
theorem run_handshake (c : Dev nD) (Q : PUnit → sProp 𝕄) :
    iprop(records m ρ K ∗ levAts L lv ∗ debt c (O₀ c) ∗ (bigSep Finset.univ fun b => landings b (peer (!b) c))
        ∗ (bigSep Finset.univ fun b => dutyTok ER (barCell (peer (!b) c)) 0 b) ∗ cred (tallyAt (barCell c) () 2) ∗ atPos ER (barCell c) 0 ∅ 0)
      ⊢ iprop(((debt c (owe c 0 0) ∗ atPos ER (barCell c) 1 ∅ 0 ∗ landings true c ∗ landings false c) -∗ Q ⟨⟩) -∗ run c (handshake c) Q) := by
  unfold handshake
  rw [bigSep_bool, bigSep_bool, run_seq, toDev_eq, toDev_eq]
  iintro ⟨#HR, #HL, HO, ⟨Hl1, Hl2⟩, ⟨Ht1, Ht2⟩, Hc, Ha⟩ Hk
  iapply (run_signal m ρ K false c _ rfl (O₀ c) (O₁ c) rfl) $$ [HO Hl1 Ht1]
  · isplitr; · iexact HR
    isplitl [Hl1]; · iexact Hl1
    isplitl [HO]; · iexact HO
    iexact Ht1
  iintro HO
  rw [run_seq]
  iapply (run_signal m ρ K true c _ rfl (O₁ c) (owe c 0 0) rfl) $$ [HO Hl2 Ht2]
  · isplitr; · iexact HR
    isplitl [Hl2]; · iexact Hl2
    isplitl [HO]; · iexact HO
    iexact Ht2
  iintro HO
  iapply (run_gate m ρ K c Q) $$ [HO Hc Ha]
  · isplitr; · iexact HR
    isplitr; · iexact HL
    isplitl [HO]; · iexact HO
    isplitl [Hc]; · iexact Hc
    iexact Ha
  iexact Hk

/-! ## The device's own block -/

/-- A device's own rows, from any contents, to the gathered array's: the two halves, each in its two half shares. -/
theorem run_ownBlock (c : Dev nD) (f : (cc0_stg1_0 : Ref sig .tc).ty.Contents (Elt F)) (Q : PUnit → sProp 𝕄) :
    iprop((xM.view.loc (c : Thread nD τ) ↦{fullShare} xstg m ρ c) ∗ part fullShare c (place true c 0) f ∗ part fullShare c (place false c 0) f)
      ⊢ iprop((((xM.view.loc (c : Thread nD τ) ↦{fullShare} xstg m ρ c) ∗ piece m ρ fullShare true c 0 ∗ piece m ρ fullShare false c 0) -∗ Q ⟨⟩)
          -∗ run c (ownBlock c) Q) := by
  have hd : Disjoint (rows (place true c 0)) (rows (place true c 1)) := rows_disjoint (by unfold place; simp)
  have hj (g : (cc0_stg1_0 : Ref sig .tc).ty.Contents (Elt F)) :
      (iprop(part fullShare c (place true c 0) g ∗ part fullShare c (place false c 0) g) : sProp 𝕄)
        ⊣⊢ (oM.view.loc (c : Thread nD τ) ↦[ownRows c]{fullShare} g) := by
    rw [place_zero false c]; unfold part ownRows; exact (pointsTo_union hd).symm
  have hset : (oM.access (ownRect c)).setOn Finset.univ ⊆ ownRows c := by
    rw [View.setOn_univ]
    show ((View.whole cc0_stg1_0).slice (ownRect c)).set ⊆ _
    rw [View.set_slice_whole, ownRect_set]
  have hread : oM.view.setOn (ownRect c).set ⊆ ownRows c := by
    rw [← ownRect_set]
    intro i hi
    obtain ⟨j, hj, rfl⟩ := Finset.mem_map.mp hi
    exact hj
  have hw : (oM.view.loc (c : Thread nD τ) ↦[ownRows c]{fullShare}
        (oM.access (ownRect c)).write (Elt F) f (k0_pay1 (xM.view.readAt (Elt F) xRect.toLoadRect (xstg m ρ c))) Finset.univ)
      ⊢ (iprop(piece m ρ fullShare true c 0 ∗ piece m ρ fullShare false c 0) : sProp 𝕄) :=
    (Entails.of_eq (pointsTo_congr (stored m ρ c f))).trans (hj (gath m ρ)).2
  unfold ownBlock run Prog.lift
  simp only [Prog.bind_op, Prog.bind_ret]
  iintro ⟨Hx, Ho⟩ Hk
  ihave Ho := (hj f).1 $$ Ho
  iapply (wp_load 𝒱₀ (c : Thread nD τ) none Set.univ (m := xM) (Finset.subset_univ _)) $$ Hx; iintro Hx
  iapply (wp_load 𝒱₀ (c : Thread nD τ) none Set.univ (m := oM) hread) $$ Ho; iintro Ho
  iapply (wp_store 𝒱₀ (c : Thread nD τ) none Set.univ (m := oM) (r := ownRect c) (Mk := Finset.univ) hset) $$ Ho; iintro Ho
  rw [wp_ret]; imodintro
  iapply Hk
  isplitl [Hx]; · iexact Hx
  iapply hw; iexact Ho

end Cert.Gather

end
-- ==== Proof.Whole.lean ====
/-
  The result's buffer, whole and in half-blocks.

  At the start it is cut into the device's own two halves and, for each direction, the fifteen places that messages land in
  (`cut`). At the end the fifteen sources that came back in each direction and the two messages that were not passed on are
  the whole buffer, as gathered (`join`).
-/
module

public import proofs.«01_k».proof.Proof.Schedule
public import Idealize.SL.BI.BigOpNat

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-- A run of numbers in two parts. -/
theorem bigSep_parts {a b c : ℕ} (hab : a ≤ b) (hbc : b ≤ c) (A : ℕ → sProp 𝕄) :
    bigSep (Finset.Ico a c) A = iprop(bigSep (Finset.Ico a b) A ∗ bigSep (Finset.Ico b c) A) :=
  (congrArg (fun s => bigSep s A) (Finset.Ico_union_Ico_eq_Ico hab hbc).symm).trans (bigSep_union (Finset.Ico_disjoint_Ico_consecutive a b c))

/-- A run numbered anew. -/
theorem bigSep_shift (A : ℕ → sProp 𝕄) (a b d : ℕ) : bigSep (Finset.Ico (a + d) (b + d)) A = bigSep (Finset.Ico a b) fun k => A (k + d) := by
  have h : Finset.Ico (a + d) (b + d) = (Finset.Ico a b).map ⟨fun k => k + d, fun _ _ h => Nat.add_right_cancel h⟩ := by
    ext k
    rw [Finset.mem_map, Finset.mem_Ico]
    exact ⟨fun hk => ⟨k - d, Finset.mem_Ico.mpr (by omega), Nat.sub_add_cancel (by omega)⟩,
      fun ⟨j, hj, e⟩ => by have := Finset.mem_Ico.mp hj; have e' : j + d = k := e; omega⟩
  rw [h, bigSep_map]; rfl
/-- Two families that agree on a run. -/
theorem bigSep_run_congr {A B : ℕ → sProp 𝕄} {a b : ℕ} (h : ∀ k, a ≤ k → A k = B k) : bigSep (Finset.Ico a b) A = bigSep (Finset.Ico a b) B :=
  bigSep_congr fun k hk => h k (Finset.mem_Ico.mp hk).1

/-- The first place and the fifteen after the second, as one family. -/
theorem bigSep_arrival (A : ℕ → sProp 𝕄) :
    (bigSep Finset.univ fun j : Fin 16 => A (arrival j.val)) = iprop(A 0 ∗ bigSep (Finset.Ico 2 17) A) := by
  rw [bigSep_fin_eq_range 16 _ (fun j => A (arrival j)) (fun _ _ => rfl), Finset.range_eq_Ico, bigSep_Ico_succ_bot (by decide : 0 < 16),
    bigSep_run_congr (B := fun j => A (j + 1)) (fun g h => by unfold arrival; rw [if_neg (by omega)]), ← bigSep_shift A 1 16 1]
  rfl

/-- The buffer whole is its half-blocks in the order device `c` comes by them. -/
theorem whole_eq (c : Dev nD) (f : (cc0_stg1_0 : Ref sig .tc).ty.Contents (Elt F)) :
    ((oM.view.loc (c : Thread nD τ) ↦{fullShare} f) : sProp 𝕄)
      = bigSep Finset.univ fun b : Bool => iprop(part fullShare c (place b c 0) f ∗ bigSep (Finset.Ico 2 17) fun k => part fullShare c (place b c k) f) := by
  rw [pointsTo_blocks (fun x : Bool × Fin 16 => rows (place x.1 c (arrival x.2.val))) (spot_disjoint c) (spot_cover c), bigSep_univ_prod]
  exact bigSep_congr fun b _ => bigSep_arrival fun k => part fullShare c (place b c k) f

/-- The places of direction `b` after a device's own are where the messages to it land. -/
theorem landings_intro (b : Bool) (c : Dev nD) (f : (cc0_stg1_0 : Ref sig .tc).ty.Contents (Elt F)) :
    (bigSep (Finset.Ico 2 17) fun k => part fullShare c (place b c k) f : sProp 𝕄) ⊢ landings b (peer (!b) c) := by
  rw [bigSep_shift (fun k => part fullShare c (place b c k) f) 0 15 2]
  unfold landings landing
  refine bigSep_mono fun k _ => ?_
  rw [← place_peer b (peer (!b) c) k, peer_peer_not]
  have h (p : ℕ) : (part fullShare c p f : sProp 𝕄) ⊢ iprop(∃ f, part fullShare c p f) := by
    iintro H; iexists f; iexact H
  exact h _

/-- At the start. -/
theorem cut (c : Dev nD) (f : (cc0_stg1_0 : Ref sig .tc).ty.Contents (Elt F)) :
    ((oM.view.loc (c : Thread nD τ) ↦{fullShare} f) : sProp 𝕄)
      ⊢ iprop((part fullShare c (place true c 0) f ∗ part fullShare c (place false c 0) f) ∗ bigSep Finset.univ fun b => landings b (peer (!b) c)) := by
  rw [whole_eq, bigSep_bool, bigSep_bool]
  iintro ⟨⟨H1, L1⟩, H2, L2⟩
  isplitl [H1 H2]
  · isplitl [H1] <;> iassumption
  isplitl [L1]
  · iapply (landings_intro true c f); iexact L1
  · iapply (landings_intro false c f); iexact L2

/-- Each of a device's own halves is the half shares that the two directions read. -/
theorem own_shares (b : Bool) (c : Dev nD) :
    (piece m ρ fullShare b c 0 : sProp 𝕄) ⊣⊢ iprop(piece m ρ (shareOf b 0) b c 0 ∗ piece m ρ (shareOf (!b) 1) (!b) c 1) := by
  unfold piece
  rw [← place_zero b c]
  unfold part
  cases b
  · exact (pointsTo_share (PosShare.mem_left_op_right fullShare)).trans ⟨sep_comm, sep_comm⟩
  · exact pointsTo_share (PosShare.mem_left_op_right fullShare)

/-- From the third on a message reads its source alone. -/
theorem sent_eq (b : Bool) (c : Dev nD) :
    (bigSep (Finset.Ico 0 15) fun k => piece m ρ (shareOf b k) b c k : sProp 𝕄)
      = iprop(piece m ρ (shareOf b 0) b c 0 ∗ piece m ρ (shareOf b 1) b c 1 ∗ bigSep (Finset.Ico 2 15) fun k => piece m ρ fullShare b c k) := by
  rw [bigSep_Ico_succ_bot (by decide : 0 < 15), bigSep_Ico_succ_bot (by decide : 0 + 1 < 15)]
  rw [bigSep_run_congr (a := 0 + 1 + 1) (B := fun k => piece m ρ fullShare b c k) (fun k h => by unfold shareOf; rw [if_neg (by omega)])]

/-- At the end. -/
theorem join (c : Dev nD) :
    (iprop((bigSep Finset.univ fun b => bigSep (Finset.Ico 0 15) fun k => piece m ρ (shareOf b k) b c k)
        ∗ bigSep Finset.univ fun b => bigSep (Finset.Ico 15 17) fun k => piece m ρ fullShare b c k) : sProp 𝕄)
      ⊢ (oM.view.loc (c : Thread nD τ) ↦{fullShare} gath m ρ) := by
  rw [whole_eq, bigSep_bool, bigSep_bool, bigSep_bool, sent_eq, sent_eq]
  have ho (b : Bool) : (part fullShare c (place b c 0) (gath m ρ) : sProp 𝕄) = piece m ρ fullShare b c 0 := rfl
  have hk (b : Bool) : (bigSep (Finset.Ico 2 17) fun k => part fullShare c (place b c k) (gath m ρ) : sProp 𝕄)
      = iprop((bigSep (Finset.Ico 2 15) fun k => piece m ρ fullShare b c k) ∗ bigSep (Finset.Ico 15 17) fun k => piece m ρ fullShare b c k) :=
    bigSep_parts (by decide) (by decide) _
  rw [hk, hk, ho, ho]
  iintro ⟨⟨⟨HT0, HT1, HT⟩, HF0, HF1, HF⟩, LT, LF⟩
  isplitl [HT0 HF1 HT LT]
  · isplitl [HT0 HF1]
    · iapply (own_shares m ρ true c).2
      isplitl [HT0]; · iexact HT0
      iexact HF1
    isplitl [HT] <;> iassumption
  · isplitl [HF0 HT1]
    · iapply (own_shares m ρ false c).2
      isplitl [HF0]; · iexact HF0
      iexact HT1
    isplitl [HF] <;> iassumption

end Cert.Gather

end
-- ==== Proof.Rounds.lean ====
/-
  The body by its loops.

  What a device holds in one direction is said by two numbers (`side`): messages started, messages arrived. Each step moves
  one of them on by one, and the loops are induction (`run_loop`).
-/
module

public import proofs.«01_k».proof.Proof.Steps
public import proofs.«01_k».proof.Proof.Whole

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Slot → ℕ)

/-! ## What is held for a message -/

set_option backward.proofsInPublic true in
/-- A number as a message's. -/
def msg (k : ℕ) : Fin 15 := ⟨k % 15, Nat.mod_lt _ (by decide)⟩
theorem msg_eq (k : ℕ) (h : k < 15) : msg k = ⟨k, h⟩ := Fin.ext (Nat.mod_eq_of_lt h)
theorem msg_val (k : Fin 15) : msg k.val = k := msg_eq k.val k.isLt

/-- Before message `k` is started: where it is to land, and the right to pay for it. -/
def unsent (b : Bool) (c : Dev nD) (k : ℕ) : sProp 𝕄 :=
  iprop(landing b c k ∗ dutyTok ER (sendCell b c (msg k)) 0 false ∗ dutyTok ER (recvCell b (peer b c) (msg k)) 0 false)
/-- After: the promise that its source will be read out. -/
def sent (b : Bool) (c : Dev nD) (k : ℕ) : sProp 𝕄 := cred (tallyAt (sendCell b c (msg k)) () N)
/-- Before message `k` arrives: the promise that it will, and the turn to wait for it. -/
def due (b : Bool) (c : Dev nD) (k : ℕ) : sProp 𝕄 :=
  iprop(cred (tallyAt (recvCell b c (msg k)) () N) ∗ atPos ER (recvCell b c (msg k)) 0 ∅ 0)
/-- After: the turn taken. -/
def arrived (b : Bool) (c : Dev nD) (k : ℕ) : sProp 𝕄 := atPos ER (recvCell b c (msg k)) 1 ∅ 0
/-- Before and after the wait for the read-out of message `k`. -/
def unread (b : Bool) (c : Dev nD) (k : ℕ) : sProp 𝕄 := atPos ER (sendCell b c (msg k)) 0 ∅ 0
def back (b : Bool) (c : Dev nD) (k : ℕ) : sProp 𝕄 :=
  iprop(atPos ER (sendCell b c (msg k)) 1 ∅ 0 ∗ piece m ρ (shareOf b k) b c k)

/-- A family on the numbers below `n` and one on those from `n` to 14. -/
def split (n : ℕ) (A B : ℕ → sProp 𝕄) : sProp 𝕄 := iprop(bigSep (Finset.Ico 0 n) A ∗ bigSep (Finset.Ico n 15) B)

/-- Number `n` goes from the second to the first. -/
theorem split_next {n : ℕ} (h : n < 15) (A B : ℕ → sProp 𝕄) : split n A B ⊢ iprop(B n ∗ (A n -∗ split (n + 1) A B)) := by
  unfold split
  rw [bigSep_Ico_succ_bot h B, bigSep_Ico_succ_top (Nat.zero_le n) A]
  iintro ⟨HA, HB, HR⟩
  isplitl [HB]; · iexact HB
  iintro H
  isplitl [HA H]
  · isplitl [H] <;> iassumption
  iexact HR

/-- Direction `b` of device `c`, `s` messages started and `r` arrived. -/
def side (b : Bool) (c : Dev nD) (s r : ℕ) : sProp 𝕄 := iprop(split s (sent b c) (unsent b c) ∗ split r (arrived b c) (due b c))

/-- The next message is started. -/
theorem side_start (b : Bool) (c : Dev nD) (s r : ℕ) (h : s < 15) (O O' : CellTallies nD τ sig Unit)
    (hO : O = O' + tallyAt (recvCell b (peer b c) ⟨s, h⟩) () N) (Q : PUnit → sProp 𝕄) :
    iprop(records m ρ K ∗ side b c s r ∗ piece m ρ (shareOf b s) b c s ∗ debt c O)
      ⊢ iprop(((side b c (s + 1) r ∗ debt c O') -∗ Q ⟨⟩) -∗ run c (start b c ⟨s, h⟩) Q) := by
  unfold side
  iintro ⟨#HR, ⟨Hs, Hr⟩, Hp, HO⟩ Hk
  ihave Hs := (split_next h _ _) $$ Hs
  icases Hs with ⟨Hu, Hs⟩
  unfold unsent sent
  rw [msg_eq s h]
  icases Hu with ⟨Hl, Ht1, Ht2⟩
  iapply (run_start m ρ K b c ⟨s, h⟩ O O' hO Q) $$ [Hl Ht1 Ht2 Hp HO]
  · isplitr; · iexact HR
    isplitl [Hp]; · iexact Hp
    isplitl [Hl]; · iexact Hl
    isplitl [HO]; · iexact HO
    isplitl [Ht1] <;> iassumption
  iintro ⟨Hc, HO⟩
  iapply Hk
  isplitr [HO]
  · isplitl [Hs Hc]; · iapply Hs; iexact Hc
    iexact Hr
  iexact HO

/-- The next message arrives. -/
theorem side_await (b : Bool) (c : Dev nD) (s r : ℕ) (h : r < 15) (n : ℕ) (hn : r < n) (Q : PUnit → sProp 𝕄) :
    iprop(records m ρ K ∗ levAts L lv ∗ side b c s r ∗ debt c (owe c n n))
      ⊢ iprop(((side b c s (r + 1) ∗ piece m ρ fullShare b c (r + 2) ∗ debt c (owe c n n)) -∗ Q ⟨⟩) -∗ run c (awaitIn b c ⟨r, h⟩) Q) := by
  unfold side
  iintro ⟨#HR, #HL, ⟨Hs, Hr⟩, HO⟩ Hk
  ihave Hr := (split_next h _ _) $$ Hr
  icases Hr with ⟨Hd, Hr⟩
  unfold due arrived
  rw [msg_eq r h]
  icases Hd with ⟨Hc, Ha⟩
  iapply (run_awaitIn m ρ K b c ⟨r, h⟩ n hn Q) $$ [Hc Ha HO]
  · isplitr; · iexact HR
    isplitr; · iexact HL
    isplitl [HO]; · iexact HO
    isplitl [Hc] <;> iassumption
  iintro ⟨HO, Ha, Hp⟩
  iapply Hk
  isplitr [HO Hp]
  · isplitl [Hs]; · iexact Hs
    iapply Hr; iexact Ha
  isplitl [Hp] <;> iassumption

/-- The next source comes back. -/
theorem split_back (b : Bool) (c : Dev nD) (n : ℕ) (h : n < 15) (Q : PUnit → sProp 𝕄) :
    iprop(records m ρ K ∗ levAts L lv ∗ split n (back m ρ b c) (fun k => iprop(sent b c k ∗ unread b c k)) ∗ debt c 0)
      ⊢ iprop(((split (n + 1) (back m ρ b c) (fun k => iprop(sent b c k ∗ unread b c k)) ∗ debt c 0) -∗ Q ⟨⟩) -∗ run c (awaitOut b c ⟨n, h⟩) Q) := by
  iintro ⟨#HR, #HL, Hs, HO⟩ Hk
  ihave Hs := (split_next h _ _) $$ Hs
  icases Hs with ⟨Hd, Hs⟩
  unfold sent unread back
  rw [msg_eq n h]
  icases Hd with ⟨Hc, Ha⟩
  iapply (run_awaitOut m ρ K b c ⟨n, h⟩ Q) $$ [Hc Ha HO]
  · isplitr; · iexact HR
    isplitr; · iexact HL
    isplitl [HO]; · iexact HO
    isplitl [Hc] <;> iassumption
  iintro ⟨HO, Ha, Hp⟩
  iapply Hk
  isplitr [HO]
  · iapply Hs
    isplitl [Ha] <;> iassumption
  iexact HO

/-! ## Both directions -/

/-- A device that has started `s` messages and received `r` in each direction, and owes the rest. -/
def state (c : Dev nD) (s r : ℕ) : sProp 𝕄 := iprop(side true c s r ∗ side false c s r ∗ debt c (owe c s s))

theorem run_startBoth (c : Dev nD) (s r : ℕ) (h : s < 15) (Q : PUnit → sProp 𝕄) :
    iprop(records m ρ K ∗ state c s r ∗ piece m ρ (shareOf true s) true c s ∗ piece m ρ (shareOf false s) false c s)
      ⊢ iprop((state c (s + 1) r -∗ Q ⟨⟩) -∗ run c (startBoth c ⟨s, h⟩) Q) := by
  have h1 : owe c s s = (oweSide true c (s + 1) + oweSide false c s) + tallyAt (recvCell true (peer true c) ⟨s, h⟩) () N := by
    unfold owe; rw [oweSide_step true c ⟨s, h⟩]; exact add_right_comm _ _ _
  have h2 : oweSide true c (s + 1) + oweSide false c s = owe c (s + 1) (s + 1) + tallyAt (recvCell false (peer false c) ⟨s, h⟩) () N := by
    unfold owe; rw [oweSide_step false c ⟨s, h⟩]; exact (add_assoc _ _ _).symm
  unfold state startBoth
  rw [run_seq]
  iintro ⟨#HR, ⟨HT, HF, HO⟩, HpT, HpF⟩ Hk
  iapply (side_start m ρ K true c s r h _ _ h1) $$ [HT HpT HO]
  · isplitr; · iexact HR
    isplitl [HT]; · iexact HT
    isplitl [HpT] <;> iassumption
  iintro ⟨HT, HO⟩
  iapply (side_start m ρ K false c s r h _ _ h2) $$ [HF HpF HO]
  · isplitr; · iexact HR
    isplitl [HF]; · iexact HF
    isplitl [HpF] <;> iassumption
  iintro ⟨HF, HO⟩
  iapply Hk
  isplitl [HT]; · iexact HT
  isplitl [HF] <;> iassumption

theorem run_awaitInBoth (c : Dev nD) (s r : ℕ) (h : r < 15) (hs : r < s) (Q : PUnit → sProp 𝕄) :
    iprop(records m ρ K ∗ levAts L lv ∗ state c s r)
      ⊢ iprop(((state c s (r + 1) ∗ piece m ρ fullShare true c (r + 2) ∗ piece m ρ fullShare false c (r + 2)) -∗ Q ⟨⟩)
          -∗ run c (awaitInBoth c ⟨r, h⟩) Q) := by
  unfold state awaitInBoth
  rw [run_seq]
  iintro ⟨#HR, #HL, HT, HF, HO⟩ Hk
  iapply (side_await m ρ K true c s r h s hs) $$ [HT HO]
  · isplitr; · iexact HR
    isplitr; · iexact HL
    isplitl [HT] <;> iassumption
  iintro ⟨HT, HpT, HO⟩
  iapply (side_await m ρ K false c s r h s hs) $$ [HF HO]
  · isplitr; · iexact HR
    isplitr; · iexact HL
    isplitl [HF] <;> iassumption
  iintro ⟨HF, HpF, HO⟩
  iapply Hk
  isplitr [HpT HpF]
  · isplitl [HT]; · iexact HT
    isplitl [HF] <;> iassumption
  isplitl [HpT] <;> iassumption

/-- What comes in as message `r` goes out as message `r + 2`. -/
theorem run_forward (c : Dev nD) (r : ℕ) (h : r < 13) (Q : PUnit → sProp 𝕄) :
    iprop(records m ρ K ∗ levAts L lv ∗ state c (r + 2) r)
      ⊢ iprop((state c (r + 3) (r + 1) -∗ Q ⟨⟩) -∗ run c (forward c ⟨r, by omega⟩) Q) := by
  have hk : (⟨r, by omega⟩ + 2 : Fin 15) = ⟨r + 2, by omega⟩ := Fin.ext (Nat.mod_eq_of_lt (by show r + 2 < 15; omega))
  have h15 : r < 15 := by omega
  have h2 : r < r + 2 := by omega
  have h17 : r + 2 < 15 := by omega
  have hq (b : Bool) : shareOf b (r + 2) = fullShare := if_neg (by omega)
  unfold forward
  rw [run_seq, hk]
  iintro ⟨#HR, #HL, HS⟩ Hk
  iapply (run_awaitInBoth m ρ K c (r + 2) r h15 h2) $$ [HS]
  · isplitr; · iexact HR
    isplitr; · iexact HL
    iexact HS
  iintro ⟨HS, HpT, HpF⟩
  iapply (run_startBoth m ρ K c (r + 2) (r + 1) h17) $$ [HS HpT HpF]
  · isplitr; · iexact HR
    rw [hq, hq]
    isplitl [HS]; · iexact HS
    isplitl [HpT] <;> iassumption
  iexact Hk

/-! ## The loops -/

/-- A loop keeps what its steps keep. -/
theorem run_loop (c : Dev nD) (f : Fin 15 → P F) (R : sProp 𝕄) [BI.Persistent R] (I : ℕ → sProp 𝕄) :
    ∀ (n i : ℕ) (h : i + n ≤ 15),
      (∀ (k : ℕ) (hk : k < 15), i ≤ k → k < i + n → ∀ Q : PUnit → sProp 𝕄, iprop(R ∗ I k) ⊢ iprop((I (k + 1) -∗ Q ⟨⟩) -∗ run c (f ⟨k, hk⟩) Q)) →
      ∀ Q : PUnit → sProp 𝕄, iprop(R ∗ I i) ⊢ iprop((I (i + n) -∗ Q ⟨⟩) -∗ run c (loop f n i h) Q)
  | 0, i, h, _, Q => by
    unfold loop run
    iintro ⟨-, HI⟩ Hk
    rw [wp_pure]; imodintro
    iapply Hk; iexact HI
  | n + 1, i, h, hs, Q => by
    have h0 : i < 15 := by omega
    have h1 : i + 1 + n ≤ 15 := by omega
    have h2 (k : ℕ) (hk : k < 15) (ha : i + 1 ≤ k) (hb : k < i + 1 + n) := hs k hk (by omega) (by omega)
    have h3 : i < i + (n + 1) := by omega
    unfold loop
    rw [run_seq]
    iintro ⟨#HR, HI⟩ Hk
    iapply (hs i h0 (Nat.le_refl _) h3 _) $$ [HI]
    · isplitr; · iexact HR
      iexact HI
    iintro HI
    iapply (run_loop c f R I n (i + 1) h1 h2 Q) $$ [HI]
    · isplitr; · iexact HR
      iexact HI
    rw [show i + 1 + n = i + (n + 1) by omega]
    iexact Hk

/-- The messages that come in last are kept. -/
def kept (c : Dev nD) (r : ℕ) : sProp 𝕄 :=
  iprop((bigSep (Finset.Ico 15 (r + 2)) fun k => piece m ρ fullShare true c k) ∗ bigSep (Finset.Ico 15 (r + 2)) fun k => piece m ρ fullShare false c k)

theorem kept_none (c : Dev nD) : (emp : sProp 𝕄) ⊢ kept m ρ c 13 := by
  unfold kept
  have h (A : ℕ → sProp 𝕄) : (emp : sProp 𝕄) ⊢ bigSep (Finset.Ico 15 (13 + 2)) A := by
    rw [Finset.Ico_self, bigSep_empty]; exact BI.Entails.refl _
  iintro -
  isplitr
  · iapply (h _); iempintro
  · iapply (h _); iempintro

theorem kept_next (c : Dev nD) (r : ℕ) (h : 13 ≤ r) :
    iprop(kept m ρ c r ∗ piece m ρ fullShare true c (r + 2) ∗ piece m ρ fullShare false c (r + 2)) ⊢ (kept m ρ c (r + 1) : sProp 𝕄) := by
  unfold kept
  have h15 : 15 ≤ r + 2 := by omega
  rw [show r + 1 + 2 = (r + 2) + 1 from rfl, bigSep_Ico_succ_top h15, bigSep_Ico_succ_top h15]
  iintro ⟨⟨H1, H2⟩, H3, H4⟩
  isplitl [H1 H3]
  · isplitl [H3] <;> iassumption
  isplitl [H4] <;> iassumption

/-- One direction's read-outs, `n` of them done. -/
def reads (b : Bool) (c : Dev nD) (n : ℕ) : sProp 𝕄 := split n (back m ρ b c) (fun k => iprop(sent b c k ∗ unread b c k))

/-- All messages started and arrived, the read-outs are next. -/
theorem reads_intro (b : Bool) (c : Dev nD) :
    iprop(side b c 15 15 ∗ bigSep (Finset.Ico 0 15) (unread b c)) ⊢ (iprop(reads m ρ b c 0 ∗ bigSep (Finset.Ico 0 15) (arrived b c)) : sProp 𝕄) := by
  unfold side reads split
  rw [bigSep_sep', Finset.Ico_self, Finset.Ico_self, bigSep_empty, bigSep_empty, bigSep_empty]
  iintro ⟨⟨⟨Hs, -⟩, Hr, -⟩, Hu⟩
  isplitr [Hr]
  · isplitr; · iempintro
    isplitl [Hs] <;> iassumption
  iexact Hr

theorem reads_done (b : Bool) (c : Dev nD) :
    (reads m ρ b c 15 : sProp 𝕄)
      ⊢ iprop((bigSep (Finset.Ico 0 15) fun k => atPos ER (sendCell b c (msg k)) 1 ∅ 0) ∗ bigSep (Finset.Ico 0 15) fun k => piece m ρ (shareOf b k) b c k) := by
  unfold reads split back
  rw [bigSep_sep']
  iintro ⟨H, -⟩
  iexact H

/-- The body after the handshake and the copy of the device's own block. -/
theorem run_messages (c : Dev nD) (Q : PUnit → sProp 𝕄) :
    iprop((records m ρ K ∗ levAts L lv) ∗ state c 0 0 ∗ (piece m ρ fullShare true c 0 ∗ piece m ρ fullShare false c 0)
        ∗ bigSep Finset.univ fun b => bigSep (Finset.Ico 0 15) (unread b c))
      ⊢ iprop(((debt c 0 ∗ (oM.view.loc (c : Thread nD τ) ↦{fullShare} gath m ρ)
            ∗ bigSep Finset.univ fun b => iprop((bigSep (Finset.Ico 0 15) fun k => atPos ER (sendCell b c (msg k)) 1 ∅ 0) ∗ bigSep (Finset.Ico 0 15) (arrived b c))) -∗ Q ⟨⟩)
          -∗ run c (startBoth c 0 >>= fun _ => startBoth c 1 >>= fun _ =>
              loop (forward c) 13 0 (by omega) >>= fun _ => loop (awaitInBoth c) 2 13 (by omega) >>= fun _ =>
              loop (awaitOutBoth c) 15 0 (by omega)) Q) := by
  rw [run_seq, bigSep_bool, bigSep_bool]
  iintro ⟨⟨#HR, #HL⟩, HS, ⟨HpT, HpF⟩, HuT, HuF⟩ Hk
  -- the two messages of the device's own block each way
  ihave HpT := (own_shares m ρ true c).1 $$ HpT
  ihave HpF := (own_shares m ρ false c).1 $$ HpF
  icases HpT with ⟨HT0, HF1⟩
  icases HpF with ⟨HF0, HT1⟩
  iapply (run_startBoth m ρ K c 0 0 (by decide)) $$ [HS HT0 HF0]
  · isplitr; · iexact HR
    isplitl [HS]; · iexact HS
    isplitl [HT0] <;> iassumption
  iintro HS
  rw [run_seq]
  iapply (run_startBoth m ρ K c 1 0 (by decide)) $$ [HS HT1 HF1]
  · isplitr; · iexact HR
    isplitl [HS]; · iexact HS
    isplitl [HT1]; · iexact HT1
    iexact HF1
  iintro HS
  -- thirteen passed on
  rw [run_seq]
  iapply (run_loop c (forward c) iprop(records m ρ K ∗ levAts L lv) (fun r => state c (r + 2) r) 13 0 _
    (fun r hr _ h Q => by
      iintro ⟨⟨#HR, #HL⟩, HS⟩ Hk
      iapply (run_forward m ρ K c r (by omega) Q) $$ [HS]
      · isplitr; · iexact HR
        isplitr; · iexact HL
        iexact HS
      iexact Hk)) $$ [HS]
  · isplitr
    · isplitr; · iexact HR
      iexact HL
    iexact HS
  iintro HS
  -- two kept
  rw [run_seq]
  iapply (run_loop c (awaitInBoth c) iprop(records m ρ K ∗ levAts L lv) (fun r => iprop(state c 15 r ∗ kept m ρ c r)) 2 13 _
    (fun r hr h _ Q => by
      iintro ⟨⟨#HR, #HL⟩, HS, HK⟩ Hk
      iapply (run_awaitInBoth m ρ K c 15 r hr (by omega) Q) $$ [HS]
      · isplitr; · iexact HR
        isplitr; · iexact HL
        iexact HS
      iintro ⟨HS, Hp⟩
      iapply Hk
      isplitl [HS]; · iexact HS
      iapply (kept_next m ρ c r h)
      isplitl [HK] <;> iassumption)) $$ [HS]
  · isplitr
    · isplitr; · iexact HR
      iexact HL
    isplitl [HS]; · iexact HS
    iapply (kept_none m ρ c); iempintro
  unfold state
  rw [show 13 + 2 = 15 from rfl, owe_done]
  iintro ⟨⟨HT, HF, HO⟩, HK⟩
  ihave HT := (reads_intro m ρ true c) $$ [HT HuT]
  · isplitl [HT] <;> iassumption
  ihave HF := (reads_intro m ρ false c) $$ [HF HuF]
  · isplitl [HF] <;> iassumption
  icases HT with ⟨HT, HaT⟩
  icases HF with ⟨HF, HaF⟩
  -- the sources come back
  iapply (run_loop c (awaitOutBoth c) iprop(records m ρ K ∗ levAts L lv) (fun n => iprop(reads m ρ true c n ∗ reads m ρ false c n ∗ debt c 0)) 15 0 _
    (fun n hn _ _ Q => by
      unfold reads awaitOutBoth
      rw [run_seq]
      iintro ⟨⟨#HR, #HL⟩, HT, HF, HO⟩ Hk
      iapply (split_back m ρ K true c n hn) $$ [HT HO]
      · isplitr; · iexact HR
        isplitr; · iexact HL
        isplitl [HT] <;> iassumption
      iintro ⟨HT, HO⟩
      iapply (split_back m ρ K false c n hn) $$ [HF HO]
      · isplitr; · iexact HR
        isplitr; · iexact HL
        isplitl [HF] <;> iassumption
      iintro ⟨HF, HO⟩
      iapply Hk
      isplitl [HT]; · iexact HT
      isplitl [HF] <;> iassumption)) $$ [HT HF HO]
  · isplitr
    · isplitr; · iexact HR
      iexact HL
    isplitl [HT]; · iexact HT
    isplitl [HF] <;> iassumption
  iintro ⟨HT, HF, HO⟩
  ihave HT := (reads_done m ρ true c) $$ HT
  ihave HF := (reads_done m ρ false c) $$ HF
  icases HT with ⟨HsT, HpT⟩
  icases HF with ⟨HsF, HpF⟩
  iapply Hk
  isplitl [HO]; · iexact HO
  isplitl [HpT HpF HK]
  · iapply (join m ρ c)
    rw [bigSep_bool, bigSep_bool]
    unfold kept
    isplitl [HpT HpF]
    · isplitl [HpT] <;> iassumption
    iexact HK
  isplitl [HsT HaT]
  · isplitl [HsT] <;> iassumption
  isplitl [HsF] <;> iassumption

end Cert.Gather

end
-- ==== Proof.Body.lean ====
/-
  One device, from its launch to its end.

  At its start a device knows the schedule, holds its place on each of its sixty-one semaphores, the rights for what it
  pays (`payToks`), and the promises of what it is paid (`credits`). It ends with its result's buffer holding the gathered
  array and every semaphore at zero.
-/
module

public import proofs.«01_k».proof.Proof.Rounds
public import proofs.«01_k».proof.Proof.Gen.KernelIdeal.Launch

@[expose] public section

noncomputable section

namespace Cert.Gather

open Cert.KernelIdeal Cert.KernelIdeal.Gen
open Idealize.ShloMosaic Idealize.ShloMosaic.TcCoe Idealize.ShloMosaic.Ring
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Slot → ℕ)

/-! ## Families over a device's semaphores -/

/-- The barrier's, and those of the others. -/
theorem bigSep_opt (Φ : Option Slot → sProp 𝕄) : bigSep Finset.univ Φ = iprop(Φ none ∗ bigSep Finset.univ fun x => Φ (some x)) := by
  rw [bigSep_univ_at Φ none]
  have h : (Finset.univ.erase none : Finset (Option Slot)) = Finset.univ.map Function.Embedding.some := by
    ext x; cases x <;> simp
  rw [h, bigSep_map]; rfl

/-- The barrier's, those of the messages in, those of the messages out. -/
theorem bigSep_cells (Φ : Option Slot → sProp 𝕄) :
    bigSep Finset.univ Φ = iprop(Φ none
      ∗ (bigSep Finset.univ fun b => bigSep (Finset.Ico 0 15) fun k => Φ (some (true, b, msg k)))
      ∗ bigSep Finset.univ fun b => bigSep (Finset.Ico 0 15) fun k => Φ (some (false, b, msg k))) := by
  have h (d b : Bool) : (bigSep Finset.univ fun k : Fin 15 => Φ (some (d, b, k))) = bigSep (Finset.Ico 0 15) fun k => Φ (some (d, b, msg k)) := by
    rw [← Finset.range_eq_Ico]
    exact bigSep_fin_eq_range 15 _ _ fun t ht => by rw [msg_eq t ht]
  rw [bigSep_opt, bigSep_univ_prod, bigSep_bool, bigSep_univ_prod, bigSep_univ_prod,
    bigSep_congr fun b _ => h true b, bigSep_congr fun b _ => h false b]

/-! ## At the start -/

/-- The rights for what device `c` pays: on both neighbours' barriers, on the landings of its messages there, on its own
    read-outs. -/
def payToks (c : Dev nD) : sProp 𝕄 :=
  iprop((bigSep Finset.univ fun b => dutyTok ER (barCell (peer (!b) c)) 0 b)
    ∗ (bigSep Finset.univ fun b => bigSep (Finset.Ico 0 15) fun k => dutyTok ER (recvCell b (peer b c) (msg k)) 0 false)
    ∗ bigSep Finset.univ fun b => bigSep (Finset.Ico 0 15) fun k => dutyTok ER (sendCell b c (msg k)) 0 false)

/-- The promises of what it is paid by others. -/
def credits (c : Dev nD) : sProp 𝕄 :=
  iprop(cred (tallyAt (barCell c) () 2)
    ∗ bigSep Finset.univ fun b => bigSep (Finset.Ico 0 15) fun k => cred (tallyAt (recvCell b c (msg k)) () N))

/-- Its place on each of its semaphores, in round `r`. -/
def places (c : Dev nD) (r : ℕ) : sProp 𝕄 := bigSep Finset.univ fun x : Option Slot => atPos ER (cell (c, x)) r ∅ 0

def linear (c : Dev nD) : sProp 𝕄 := iprop(places c 0 ∗ payToks c)

def start₀ (c : Dev nD) : sProp 𝕄 := iprop((∃ K, records m ρ K ∗ linear c) ∗ credits c ∗ levAts L lv)

/-- At the end all its semaphores are at zero. -/
def end₁ (c : Dev nD) : sProp 𝕄 := bigSep Finset.univ fun x : Option Slot => semVal (cell (c, x)) 0

/-- Before the first message. -/
theorem side_intro (b : Bool) (c : Dev nD) :
    iprop(landings b c ∗ (bigSep (Finset.Ico 0 15) fun k => dutyTok ER (sendCell b c (msg k)) 0 false)
        ∗ (bigSep (Finset.Ico 0 15) fun k => dutyTok ER (recvCell b (peer b c) (msg k)) 0 false)
        ∗ (bigSep (Finset.Ico 0 15) fun k => cred (tallyAt (recvCell b c (msg k)) () N))
        ∗ bigSep (Finset.Ico 0 15) fun k => atPos ER (recvCell b c (msg k)) 0 ∅ 0)
      ⊢ (side b c 0 0 : sProp 𝕄) := by
  unfold side split unsent due landings
  rw [Finset.Ico_self, bigSep_empty, bigSep_empty, bigSep_sep', bigSep_sep', bigSep_sep']
  iintro ⟨H1, H2, H3, H4, H5⟩
  isplitr [H4 H5]
  · isplitr; · iempintro
    isplitl [H1]; · iexact H1
    isplitl [H2] <;> iassumption
  isplitr; · iempintro
  isplitl [H4] <;> iassumption

/-- Something known to all holds beside every member of a family. -/
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device past the one round of each of its semaphores closes them all. -/
theorem close_all (c : Dev nD) : iprop(records m ρ K ∗ places c 1) ⊢ |={Set.univ}=> (end₁ c : sProp 𝕄) := by
  unfold places end₁
  refine (bigSep_known (R := records m ρ K) (Ψ := fun x : Option Slot => iprop(|={Set.univ}=> semVal (cell (c, x)) 0)) fun x _ => ?_).trans (bigSep_fupd _ _)
  iintro ⟨#HR, Ha⟩
  iapply (Rounds.cell_close ER (Rd m ρ) (Set.mem_univ (K (c, x))) (fun h => h) (R := 0 + 1) (duties_later m ρ (cell (c, x))))
  isplitr; · iapply (inv_of m ρ K (c, x)); iexact HR
  iexact Ha

/-- An update at the end of a program. -/
theorem run_seq_end (c : Dev nD) (e : P F) (Q : PUnit → sProp 𝕄) : run c e (fun x => iprop(|={Set.univ}=> Q x)) ⊢ run c e Q := wp_fupd _ _ _ _ _

/-- The program, from all that a device is given to all that it leaves. -/
theorem run_program (c : Dev nD) (f : (cc0_stg1_0 : Ref sig .tc).ty.Contents (Elt F)) (Q : PUnit → sProp 𝕄) :
    iprop((records m ρ K ∗ levAts L lv) ∗ linear c ∗ credits c ∗ debt c (O₀ c)
        ∗ (xM.view.loc (c : Thread nD τ) ↦{fullShare} xstg m ρ c) ∗ (oM.view.loc (c : Thread nD τ) ↦{fullShare} f))
      ⊢ iprop(((end₁ c ∗ debt c 0 ∗ (xM.view.loc (c : Thread nD τ) ↦{fullShare} xstg m ρ c)
          ∗ (oM.view.loc (c : Thread nD τ) ↦{fullShare} gath m ρ)) -∗ Q ⟨⟩) -∗ run c (program c) Q) := by
  unfold program linear credits places payToks
  rw [run_seq, bigSep_cells]
  iintro ⟨⟨#HR, #HL⟩, ⟨⟨HaB, HaR, HaS⟩, HtB, HtR, HtS⟩, ⟨HcB, HcR⟩, HO, Hx, Hout⟩ Hk
  ihave Hout := (cut c f) $$ Hout
  icases Hout with ⟨Hown, Hgive⟩
  iapply (run_handshake m ρ K c _) $$ [HO Hgive HtB HcB HaB]
  · isplitr; · iexact HR
    isplitr; · iexact HL
    isplitl [HO]; · iexact HO
    isplitl [Hgive]; · iexact Hgive
    isplitl [HtB]; · iexact HtB
    isplitl [HcB] <;> iassumption
  iintro ⟨HO, HaB, HlT, HlF⟩
  rw [run_seq]
  iapply (run_ownBlock m ρ c f _) $$ [Hx Hown]
  · isplitl [Hx]; · iexact Hx
    iexact Hown
  iintro ⟨Hx, HpT, HpF⟩
  ihave HaR := (Entails.of_eq (bigSep_bool _)) $$ HaR
  ihave HaS := (Entails.of_eq (bigSep_bool _)) $$ HaS
  ihave HtR := (Entails.of_eq (bigSep_bool _)) $$ HtR
  ihave HtS := (Entails.of_eq (bigSep_bool _)) $$ HtS
  ihave HcR := (Entails.of_eq (bigSep_bool _)) $$ HcR
  icases HaR with ⟨HaRT, HaRF⟩
  icases HaS with ⟨HaST, HaSF⟩
  icases HtR with ⟨HtRT, HtRF⟩
  icases HtS with ⟨HtST, HtSF⟩
  icases HcR with ⟨HcRT, HcRF⟩
  ihave HT := (side_intro true c) $$ [HlT HtST HtRT HcRT HaRT]
  · isplitl [HlT]; · iexact HlT
    isplitl [HtST]; · iexact HtST
    isplitl [HtRT]; · iexact HtRT
    isplitl [HcRT] <;> iassumption
  ihave HF := (side_intro false c) $$ [HlF HtSF HtRF HcRF HaRF]
  · isplitl [HlF]; · iexact HlF
    isplitl [HtSF]; · iexact HtSF
    isplitl [HtRF]; · iexact HtRF
    isplitl [HcRF] <;> iassumption
  iapply (run_seq_end c _ Q)
  iapply (run_messages m ρ K c _) $$ [HT HF HO HpT HpF HaST HaSF]
  · isplitr
    · isplitr; · iexact HR
      iexact HL
    isplitl [HT HF HO]
    · unfold state
      isplitl [HT]; · iexact HT
      isplitl [HF] <;> iassumption
    isplitl [HpT HpF]
    · isplitl [HpT] <;> iassumption
    rw [bigSep_bool]
    unfold unread
    isplitl [HaST] <;> iassumption
  iintro ⟨HO, Hout, Hat⟩
  have hp : (iprop(atPos ER (barCell c) 1 ∅ 0 ∗ bigSep Finset.univ fun b => iprop((bigSep (Finset.Ico 0 15) fun k => atPos ER (sendCell b c (msg k)) 1 ∅ 0)
      ∗ bigSep (Finset.Ico 0 15) (arrived b c))) : sProp 𝕄) ⊢ places c 1 := by
    unfold places arrived
    rw [bigSep_cells, bigSep_sep']
    iintro ⟨H1, H2, H3⟩
    isplitl [H1]; · iexact H1
    isplitl [H3] <;> iassumption
  ihave Hat := hp $$ [HaB Hat]
  · isplitl [HaB] <;> iassumption
  imod (close_all m ρ K c) $$ [Hat] with Hz
  · isplitr; · iexact HR
    iexact Hat
  imodintro
  iapply Hk
  isplitl [Hz]; · iexact Hz
  isplitl [HO]; · iexact HO
  isplitl [Hx] <;> iassumption

/-! ## The body in its pipeline -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The kernel's one step: `x`'s buffer is as staged and stays so, the result's ends as the gathered array. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ
  Φ t := match t with
    | ⟨0, _⟩ => start₀ m ρ c
    | ⟨_ + 1, _⟩ => end₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))

def bodyPost (c : Dev nD) : sProp 𝕄 :=
  iprop(end₁ c ∗ (dats m ρ 0 c).owesAt () t₀.succ ∗ staged c cc0_stg0_0 (xstg m ρ c) ∗ staged c cc0_stg1_0 (gath m ρ))

theorem body_run (c : Dev nD) :
    bodyPre m ρ c ⊢ run c (cc0_body (F := F) xM (Memref.isWhole_whole _) oM (Memref.isWhole_whole _) cc0_scratch0 cc0_scratch1 cc0_scratch2 cc0_scratch3)
      fun _ => bodyPost m ρ c := by
  rw [body_eq]
  unfold run
  simp only [Prog.lift, Prog.bind_op, Prog.bind_ret, wp_deviceId]
  unfold bodyPre start₀ Dat.owesAt Pipeline.owesWithin
  iintro ⟨⟨⟨%K, #HR, Hlin⟩, Hcr, #HL⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  rw [show (dats m ρ 0 c).owed t₀.castSucc = O₀ c from rfl]
  iapply (run_program m ρ K c g1 fun _ => bodyPost m ρ c) $$ [Hlin Hcr HO Hx Hout]
  · isplitr
    · isplitr; · iexact HR
      iexact HL
    isplitl [Hlin]; · iexact Hlin
    isplitl [Hcr]; · iexact Hcr
    isplitl [HO]; · unfold debt; iexists W; iexact HO
    isplitl [Hx] <;> iassumption
  unfold debt
  iintro ⟨Hz, ⟨%W', HO⟩, Hx, Hout⟩
  unfold bodyPost Dat.owesAt Pipeline.owesWithin
  rw [show (dats m ρ 0 c).owed t₀.succ = 0 from rfl]
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3) (fun _ => bodyPost m ρ c)
  exact body_run m ρ c

end Cert.Gather

end
-- ==== Proof.Launch.lean ====
/-
  All devices together.

  Before the start nobody holds anything but its own semaphores at zero. One step for all devices at once opens every
  semaphore's schedule and deals the rights to pay to those that pay (`deal`). What each device is owed at launch is what
  the others' debts add up to (`launch_cell`). The run follows by the pipeline's launch theorem (`run_main`).
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic Idealize.ShloMosaic.TcCoe Idealize.ShloMosaic.Ring
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and rights at the start -/

theorem ownSemFacts : Pipeline.OwnSemFacts cfg0.spec osem where
  isScoped := by decide +kernel
  inj := fun x y h => slotQ_injective (SemLoc.dma.inj h)
  disj := by decide +kernel

theorem share_eq (c : Dev nD) (w : Fin cfg0.W) : (dats m ρ 0 c).share w = fullShare := by unfold Dat.share; split <;> rfl

/-- All semaphores of all devices. -/
def allCells : Finset (GSem nD τ sig) := Finset.univ.map ⟨cell, cell_injective⟩

/-- A right to pay, of either name, on each. -/
def tokOf (x : Dev nD × Option Slot × Bool) : GSem nD τ sig × ℕ × Bool := (cell (x.1, x.2.1), 0, x.2.2)
theorem tokOf_injective : Function.Injective tokOf := by
  rintro ⟨c, x, d⟩ ⟨c', x', d'⟩ h
  have h1 : (c, x) = (c', x') := cell_injective (congrArg Prod.fst h)
  have h2 : d = d' := congrArg (fun y : GSem nD τ sig × ℕ × Bool => y.2.2) h
  rw [h2, show c = c' from congrArg Prod.fst h1, show x = x' from congrArg Prod.snd h1]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The rights on device `c`'s own semaphores. -/
def ownToks (c : Dev nD) : sProp 𝕄 := bigSep Finset.univ fun x : Option Slot => bigSep Finset.univ fun d : Bool => dutyTok ER (cell (c, x)) 0 d

/-- What device `c` is given of the schedules' start. -/
def G (c : Dev nD) : sProp 𝕄 :=
  iprop((bigSep Finset.univ fun x : Option Slot => roundState ER (Rd m ρ) (cell (c, x)) 0)
    ∗ (bigSep Finset.univ fun x : Option Slot => iprop(atPos ER (cell (c, x)) 0 ∅ 0 ∗ reached ER (cell (c, x)) 0)) ∗ ownToks c)
/-- What becomes of it. -/
def G' (c : Dev nD) : sProp 𝕄 := iprop(∃ K, records m ρ K ∗ linear c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Option Slot => Φ (cell (c, x)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's one semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- It and the kernel's own are all. -/
theorem sems_eq (c : Dev nD) :
    (iprop(unscopedSems0 c ∗ Pipeline.ownSems0 (Ix := Unit) (Name := ℕ) (U := UU) (Lvl := ℕ) (Val := Elt F) (τ := τ) osem c) : sProp 𝕄) = end₁ c := by
  unfold end₁; rw [unscopedSems0_eq, bigSep_opt]; rfl

/-- A device opens the schedules of its semaphores. -/
theorem open_all (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Option Slot => iprop(∃ κ : ℕ, cellInv ER (Rd m ρ) κ (cell (c, x))))
          ∗ (bigSep Finset.univ fun x : Option Slot => iprop(atPos ER (cell (c, x)) 0 ∅ 0 ∗ reached ER (cell (c, x)) 0)) ∗ ownToks c) := by
  unfold G
  iintro ⟨Hos, Hus, Hst, Hat, Htok⟩
  ihave Hv := (Entails.of_eq (sems_eq (F := F) c)) $$ [Hos Hus]
  · isplitl [Hus] <;> iassumption
  imod (show iprop(end₁ c ∗ bigSep Finset.univ fun x : Option Slot => roundState ER (Rd m ρ) (cell (c, x)) 0)
      ⊢ (|={Set.univ}=> bigSep Finset.univ fun x : Option Slot => iprop(∃ κ : ℕ, cellInv ER (Rd m ρ) κ (cell (c, x))) : sProp 𝕄) from by
        unfold end₁
        rw [← bigSep_sep']
        exact (bigSep_mono fun x _ => (Rounds.body_intro ER (Rd m ρ) (cell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

/-- A family over devices and directions may be counted from the neighbours. -/
theorem bigSep_turn (A : Bool → Dev nD → sProp 𝕄) (e : Bool → Bool) :
    (bigSep Finset.univ fun c : Dev nD => bigSep Finset.univ fun b : Bool => A b c)
      = bigSep Finset.univ fun c : Dev nD => bigSep Finset.univ fun b : Bool => A b (peer (e b) c) := by
  simp only [bigSep_bool, bigSep_sep']
  rw [bigSep_univ_equiv (turn (e true)) (A true), bigSep_univ_equiv (turn (e false)) (A false)]
  rfl

/-- Of the rights on its own semaphores, those that the schedule knows. -/
theorem own_used (c : Dev nD) : (ownToks c : sProp 𝕄)
    ⊢ iprop((bigSep Finset.univ fun b => dutyTok ER (barCell c) 0 b)
        ∗ (bigSep Finset.univ fun b => bigSep (Finset.Ico 0 15) fun k => dutyTok ER (recvCell b c (msg k)) 0 false)
        ∗ bigSep Finset.univ fun b => bigSep (Finset.Ico 0 15) fun k => dutyTok ER (sendCell b c (msg k)) 0 false) := by
  have hs (s : Bool) : (bigSep Finset.univ fun b : Bool => bigSep (Finset.Ico 0 15) fun k => bigSep Finset.univ fun d : Bool => (dutyTok ER (cell (c, some (s, b, msg k))) 0 d : sProp 𝕄))
      ⊢ bigSep Finset.univ fun b : Bool => bigSep (Finset.Ico 0 15) fun k => dutyTok ER (cell (c, some (s, b, msg k))) 0 false :=
    bigSep_mono fun b _ => bigSep_mono fun k _ => bigSep_elim (Finset.mem_univ false)
  unfold ownToks
  rw [bigSep_cells]
  iintro ⟨H1, H2, H3⟩
  isplitl [H1]; · iexact H1
  isplitl [H2]
  · iapply (hs true); iexact H2
  · iapply (hs false); iexact H3

/-- The rights go to those that pay. -/
theorem deal : (bigSep Finset.univ fun c : Dev nD => (ownToks c : sProp 𝕄)) ⊢ bigSep Finset.univ fun c : Dev nD => payToks c := by
  unfold payToks
  rw [bigSep_sep', bigSep_sep',
    ← bigSep_turn (fun b c => (dutyTok ER (barCell c) 0 b : sProp 𝕄)) (fun b => !b),
    ← bigSep_turn (fun b c => (bigSep (Finset.Ico 0 15) fun k => dutyTok ER (recvCell b c (msg k)) 0 false : sProp 𝕄)) (fun b => b),
    ← bigSep_sep', ← bigSep_sep']
  exact bigSep_mono fun c _ => own_used c

theorem regroup :
    (bigSep Finset.univ fun c : Dev nD => iprop((bigSep Finset.univ fun x : Option Slot => iprop(∃ κ : ℕ, cellInv ER (Rd m ρ) κ (cell (c, x))))
          ∗ (bigSep Finset.univ fun x : Option Slot => iprop(atPos ER (cell (c, x)) 0 ∅ 0 ∗ reached ER (cell (c, x)) 0)) ∗ ownToks c) : sProp 𝕄)
      ⊢ bigSep Finset.univ (G' m ρ) := by
  rw [bigSep_sep', bigSep_sep', ← bigSep_univ_prod (fun ck : Dev nD × Option Slot => iprop(∃ κ : ℕ, cellInv ER (Rd m ρ) κ (cell ck))),
    bigSep_congr (s := Finset.univ) (fun (c : Dev nD) _ => bigSep_sep' Finset.univ (fun x : Option Slot => (atPos ER (cell (c, x)) 0 ∅ 0 : sProp 𝕄)) (fun x => reached ER (cell (c, x)) 0)),
    bigSep_sep', ← bigSep_univ_prod (fun ck : Dev nD × Option Slot => (reached ER (cell ck) 0 : sProp 𝕄))]
  have hG (K : Dev nD × Option Slot → ℕ) (c : Dev nD) : iprop(records m ρ K ∗ linear c) ⊢ G' m ρ c := by
    unfold G'; iintro H; iexists K; iexact H
  iintro ⟨HI, ⟨Hat, #HR⟩, Htok⟩
  ihave HK := (BI.bigSep_exists_pi Finset.univ (fun (ck : Dev nD × Option Slot) (κ : ℕ) => (cellInv ER (Rd m ρ) κ (cell ck) : sProp 𝕄))) $$ HI
  icases HK with ⟨%K, #HI⟩
  ihave Htk := (deal (F := F)) $$ Htok
  iapply (bigSep_known (R := records m ρ K) fun c _ => hG K c)
  isplitr
  · unfold records; isplitl; · iexact HI
    iexact HR
  · unfold linear; rw [bigSep_sep']
    isplitl [Hat]; · unfold places; iexact Hat
    iexact Htk

/-- The step of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_all m ρ c).trans (bigSep_fupd _ _)).trans (BI.fupd_mono (regroup m ρ))

/-! ## What is owed at launch -/

/-- What the messages of direction `b` bring to semaphore `x`, -/
def dueSide (b : Bool) (x : Option Slot) : ℕ := match x with | some (true, b', _) => if b' = b then N else 0 | _ => 0
/-- the signals of the handshake in direction `b`, -/
def dueBar (x : Option Slot) : ℕ := if x = none then 1 else 0
/-- all that it is owed. -/
def dueAll (x : Option Slot) : ℕ := dueSide true x + dueSide false x + dueBar x + dueBar x

theorem cell_eq_iff {c d : Dev nD} {x y : Option Slot} : Iff (cell (c, x) = cell (d, y)) (c = d ∧ x = y) :=
  ⟨fun h => ⟨congrArg Prod.fst (cell_injective h), congrArg Prod.snd (cell_injective h)⟩, fun ⟨h1, h2⟩ => by rw [h1, h2]⟩

/-- Device `d`'s debt of the messages of direction `b` is to its neighbour that way. -/
theorem oweSide_cell (b : Bool) (c d : Dev nD) (x : Option Slot) :
    oweSide b d 0 (cell (c, x)) () = if d = peer (!b) c then dueSide b x else 0 := by
  rw [oweSide_apply]
  simp only [cell_eq_iff, eq_peer_iff b c d, Nat.zero_le, true_and]
  by_cases h : d = peer (!b) c
  · simp only [if_pos h, h, true_and]
    cases x with
    | none => exact Finset.sum_eq_zero fun k _ => if_neg (fun e => by cases e)
    | some x =>
      obtain ⟨s, b', k'⟩ := x
      cases s with
      | false => exact Finset.sum_eq_zero fun k _ => if_neg (fun e => by cases e)
      | true =>
        show _ = if b' = b then N else 0
        by_cases hb : b' = b
        · subst hb
          rw [if_pos rfl, Finset.sum_eq_single k' (fun k _ hk => if_neg (fun e => hk (by cases e; rfl))) (fun hk => absurd (Finset.mem_univ _) hk), if_pos rfl]
        · rw [if_neg hb]
          exact Finset.sum_eq_zero fun k _ => if_neg (fun e => hb (by cases e; rfl))
  · rw [if_neg h]
    exact Finset.sum_eq_zero fun k _ => if_neg (fun e => h e.1)

/-- Its debt of the handshake likewise. -/
theorem bar_cell (b : Bool) (c d : Dev nD) (x : Option Slot) :
    (tallyAt (barCell (peer b d)) () 1 : CellTallies nD τ sig Unit) (cell (c, x)) () = if d = peer (!b) c then dueBar x else 0 := by
  unfold dueBar
  rw [tallyAt_apply]
  simp only [cell_eq_iff, eq_peer_iff b c d, and_true]
  by_cases h : d = peer (!b) c <;> by_cases hx : x = none <;> simp [h, hx]

/-- The promise a semaphore starts with. -/
theorem launch_cell (c : Dev nD) (x : Option Slot) :
    tallyOn (cell (c, x)) (launchCredit (Pipeline.owing O₀) 0 (cell (c, x))) = (tallyAt (cell (c, x)) () (dueAll x) : CellTallies nD τ sig Unit) := by
  have hd (d : Dev nD) : O₀ d (cell (c, x)) () = (if d = peer false c then dueSide true x else 0) + (if d = peer true c then dueSide false x else 0)
      + (if d = peer false c then dueBar x else 0) + (if d = peer true c then dueBar x else 0) := by
    have e1 := oweSide_cell true c d x
    have e2 := oweSide_cell false c d x
    have e3 := bar_cell true c d x
    have e4 := bar_cell false c d x
    rw [Bool.not_true] at e1 e3
    rw [Bool.not_false] at e2 e4
    rw [← e1, ← e2, ← e3, ← e4]; rfl
  unfold tallyAt; refine congrArg _ (Finsupp.ext fun u => ?_); cases u
  rw [Pipeline.launchCredit_owing, Finsupp.single_eq_same, Finset.sum_congr rfl fun d _ => hd d,
    Finset.sum_add_distrib, Finset.sum_add_distrib, Finset.sum_add_distrib]
  simp only [Finset.sum_ite_eq', Finset.mem_univ, if_true]
  rfl

theorem creds (c : Dev nD) : (Pipeline.launchCred O₀ c : sProp 𝕄) ⊢ credits c := by
  have h : (Pipeline.launchCred O₀ c : sProp 𝕄) ⊢ bigSep Finset.univ fun x : Option Slot => cred (tallyAt (cell (c, x)) () (dueAll x)) := by
    unfold Pipeline.launchCred
    refine (bigSep_subset (Finset.subset_univ (Finset.univ.map ⟨csem, csem_injective⟩))).trans ?_
    rw [bigSep_map]
    exact bigSep_mono fun x _ => Entails.of_eq (congrArg cred (launch_cell c x))
  refine h.trans ?_
  unfold credits
  rw [bigSep_cells]
  have hN (b : Bool) (k : ℕ) : dueAll (some (true, b, msg k)) = N := by cases b <;> unfold dueAll dueSide dueBar <;> simp
  simp only [hN]
  rw [show dueAll none = 2 from rfl]
  iintro ⟨H1, H2, -⟩
  isplitl [H1] <;> iassumption

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start₀ m ρ c ∗ emp) := by
  iintro ⟨-, Hlev, Hcr, -, HG⟩
  ihave Hc := (creds (F := F) c) $$ Hcr
  imodintro
  unfold start₀ G'
  isplitl
  · isplitl [HG]; · iexact HG
    isplitl [Hc] <;> iassumption
  · iempintro

theorem phi0_intro (c : Dev nD) :
    iprop(start₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start₀ m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = end₁ c from rfl, scopedRest0_eq, ← sems_eq]
  iintro ⟨H1, H2⟩
  isplitl [H1]; · iexact H1
  isplitl [H2]; · iexact H2
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun x h => ownSemFacts.disj x w s (congrArg SemLoc.dma h)) _ (by
      rcases t with ⟨_ | _, ht⟩
      · exact Or.inl rfl
      · exact Or.inr rfl)

/-! ## The run -/

/-- What the array of window `w` of device `c` holds at the end. -/
def finalA (c : Dev nD) (w : Fin cfg0.W) : Buf (Elt F) ((cfg0.win w).arr.view.loc (c : Thread nD τ)) := (dats m ρ 0 c).arrAt w cfg0.N

set_option maxRecDepth 40000 in
/-- The kernel, run on sixteen devices from any memory with its semaphores at zero, comes to an end, with the windows'
    arrays at `finalA` and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
  What the arrays hold at the end.

  The argument's array holds what it held; the result's holds the gathered array; and where each device's argument is its
  block of one whole array, the gathered array is that array.
-/
module

public import proofs.«01_k».proof.Proof.Launch
public import Idealize.ShloMosaic.Lib.Layout

@[expose] public section

noncomputable section

namespace Cert.Gather

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The argument's array ends as it began. -/
theorem finalA_x (c : Dev nD) : finalA m ρ c (0 : Fin 2) = m ((c : Thread nD τ).loc main_arg0) :=
  (dats (F := F) m ρ 0 c).arrAt_in (0 : Fin 2) rfl _

/-- What is staged of the argument is all of it. -/
theorem staged_x (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result's array ends as the gathered one. -/
theorem finalA_o (c : Dev nD) : finalA m ρ c (1 : Fin 2) = gath m ρ := by
  have hz : (fun a => (win0_1.index (0 : Fin 1)) a * main_v1.ty.shape.size a) = fun _ => 0 := funext fun a => by fin_cases a <;> decide
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact Memref.write_access_unit_zero_univ (Elt F) main_v1 hz (fun a => by fin_cases a <;> decide) _ _

/-- The blocks of a whole array, gathered, are the array. -/
theorem gath_blocks (X : (S8192x512 : Shape).Idx → F .f32)
    (hX : ∀ c : Dev nD, m ((c : Thread nD τ).loc main_arg0) = Layout.block ⟨2, ![512, 512]⟩ ⟨2, ![8192, 512]⟩ 0 16 c X) :
    gath m ρ = X := by
  funext i
  show xstg m ρ (rowDev (i 0)) _ = X i
  rw [staged_x, hX]
  refine congrArg X (funext fun a => Fin.ext ?_)
  have h0 : (i 0).val / 512 * 512 + (i 0).val % 512 = (i 0).val := by omega
  fin_cases a
  · exact h0
  · rfl

/-- The kernel's run, read at its argument and its result. -/
theorem run_arrays : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v1) = gath m ρ) ∧ r.2.sem = fun _ => 0) :=
  (θ_run defs _ _).mono (fun _ h => ⟨fun c => ⟨(h.1 c (0 : Fin 2)).trans (finalA_x m ρ c), (h.1 c (1 : Fin 2)).trans (finalA_o m ρ c)⟩, h.2⟩) (run_main m ρ)

/-- Its argument kept, and every semaphore at zero. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).1, h.2⟩) (run_arrays m ρ)

end Cert.Gather

end
-- ==== Proof.Printed.lean ====
/-
  The kernel as printed, and its idealization: the same program.

  No operation was rewritten between the two, so their tables of bodies and their entry programs are the same terms, and a
  run proved of the one for any float values is a run of the other.
-/
module

public import proofs.«01_k».proof.Proof.Value
public import proofs.«01_k».proof.Proof.Gen.Kernel
public import Idealize.ShloMosaic.Lib.Pipeline.Regions

@[expose] public section

set_option maxRecDepth 65536
set_option maxHeartbeats 4000000

noncomputable section

namespace Cert.Gather

open Idealize.ShloMosaic Idealize.SL.Sem

variable {F : FTy → Type} [FloatOps F]

/-- The two tables of bodies are one. -/
theorem tables_eq : Kernel.defs (F := F) = KernelIdeal.defs (F := F) := by chain_rfl

/-- The two entry programs are one. -/
theorem mains_eq : Kernel.main (F := F) = KernelIdeal.main (F := F) := by chain_rfl

/-- The printed kernel keeps its argument and ends with every semaphore at zero. -/
theorem printed_frame (m : (ℓ : Loc Kernel.nD Kernel.τ Kernel.sig) → Buf (Elt F) ℓ) (ρ : Dev Kernel.nD → PrngReg) :
    θ_run (Kernel.defs (F := F)) (onTc (τ := Kernel.τ) (Kernel.main (F := F))) ⟨m, fun _ => 0, ρ⟩
      (fun r => (∀ c : Dev Kernel.nD,
          r.2.mem ((c.tc : Thread Kernel.nD Kernel.τ).loc Kernel.main_arg0) = m ((c.tc : Thread Kernel.nD Kernel.τ).loc Kernel.main_arg0))
        ∧ r.2.sem = fun _ => 0) := by
  rw [tables_eq, mains_eq]
  exact run_frame m ρ

end Cert.Gather

end
-- ==== Proof.Reference.lean ====
/-
  The reference: it returns its argument, so its program does nothing.
-/
module

public import proofs.«01_k».proof.Proof.Gen.ReferenceIdeal
public import Idealize.ShloMosaic.Lib.StableHlo.Run
public import Idealize.ShloMosaic.Lib.Quiescent

@[expose] public section

noncomputable section

namespace Cert.Gather

open Idealize.ShloMosaic Idealize.SL.Sem

variable {F : FTy → Type} [FloatOps F]

/-- The reference runs from any memory, leaves its array as it was and every semaphore at zero. -/
theorem reference_run (m : (ℓ : Loc ReferenceIdeal.nD ReferenceIdeal.τ ReferenceIdeal.sig) → Buf (Elt F) ℓ)
    (ρ : Dev ReferenceIdeal.nD → PrngReg) :
    θ_run (ReferenceIdeal.defs (F := F)) (onTc (τ := ReferenceIdeal.τ) (ReferenceIdeal.main (F := F))) ⟨m, fun _ => 0, ρ⟩
      (fun r => (∀ c : Dev ReferenceIdeal.nD,
          r.2.mem ((c.tc : Thread ReferenceIdeal.nD ReferenceIdeal.τ).loc ReferenceIdeal.main_arg0)
            = m ((c.tc : Thread ReferenceIdeal.nD ReferenceIdeal.τ).loc ReferenceIdeal.main_arg0))
        ∧ r.2.sem = fun _ => 0) :=
  (θ_run ReferenceIdeal.defs _ _).mono
    (fun r h => ⟨fun c => h c ReferenceIdeal.main_arg0, sem_eq_zero_of_no_sems (by decide) r.2⟩)
    (StableHlo.run_seq (by decide) (by decide) ReferenceIdeal.defs ReferenceIdeal.main (fun _ => []) (fun _ => rfl)
      (fun _ => trivial) m ρ)

end Cert.Gather

end
-- ==== Proof.lean ====
/-
  The certificate: the five claims of the gather, each from the runs proved in Proof/.
-/
module

public import proofs.«01_k».proof.Defs
public import proofs.«01_k».proof.Proof.Printed
public import proofs.«01_k».proof.Proof.Reference

@[expose] public section

noncomputable section

namespace Cert.Proof

open Idealize.ShloMosaic Idealize.SL.Sem

/-- Each device's result is the whole array whose blocks the devices' arguments are, and the reference returns that array. -/
theorem gathers : Cert.algebraic_KernelIdeal_ReferenceIdeal := by
  intro m g m' g' _ hX
  refine ⟨_, (θ_run _ _ _).mono (fun r h c => ⟨((h.1 c).2).trans (Cert.Gather.gath_blocks m g _ hX), (h.1 c).1⟩)
      (Cert.Gather.run_arrays m g),
    (θ_run _ _ _).mono (fun r h => ⟨h.1 0, h.1 0⟩) (Cert.Gather.reference_run m' g')⟩

/-- Every claim of the certificate. -/
theorem claim : Cert.Claim := ⟨Cert.Kernel.Gen.facts, Cert.KernelIdeal.Gen.facts, Cert.ReferenceIdeal.Gen.facts,
  fun m g _ => Cert.Gather.printed_frame m g, fun m g _ => Cert.Gather.run_frame m g, fun m g _ => Cert.Gather.reference_run m g,
  trivial, gathers⟩

end Cert.Proof

end
